-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x512 : Shape := ⟨2, ![16384, 512]⟩
abbrev S16384x1024 : Shape := ⟨2, ![16384, 1024]⟩
abbrev S1x512 : Shape := ⟨2, ![1, 512]⟩
abbrev S1x1024 : Shape := ⟨2, ![1, 1024]⟩
abbrev S1 : Shape := ⟨1, ![1]⟩
abbrev S512 : Shape := ⟨1, ![512]⟩
abbrev S1024 : Shape := ⟨1, ![1024]⟩
abbrev S16 : Shape := ⟨1, ![16]⟩
abbrev S1x1 : Shape := ⟨2, ![1, 1]⟩
abbrev S15360 : Shape := ⟨1, ![15360]⟩
abbrev S1024x512 : Shape := ⟨2, ![1024, 512]⟩
abbrev S1024x1024 : Shape := ⟨2, ![1024, 1024]⟩
abbrev S2x16x512 : Shape := ⟨3, ![2, 16, 512]⟩
abbrev S2x16x1024 : Shape := ⟨3, ![2, 16, 1024]⟩
abbrev S2x16 : Shape := ⟨2, ![2, 16]⟩
abbrev S_ : Shape := ⟨0, ![]⟩
abbrev S1x16x512 : Shape := ⟨3, ![1, 16, 512]⟩
abbrev S16x512 : Shape := ⟨2, ![16, 512]⟩
abbrev S1x16x1024 : Shape := ⟨3, ![1, 16, 1024]⟩
abbrev S16x1024 : Shape := ⟨2, ![16, 1024]⟩
abbrev S1x1x16 : Shape := ⟨3, ![1, 1, 16]⟩
abbrev S1x16 : Shape := ⟨2, ![1, 16]⟩
abbrev S16384 : Shape := ⟨1, ![16384]⟩

abbrev nBuf : Table → Nat
  | .hbm => 15
  | .local .tc .vmem => 12
  | .local .scVector .vmem => 8
  | _ => 0

abbrev bufTy : (tb : Table) → Fin (nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S1x512, .f32⟩
  | .hbm, ⟨4, _⟩ => ⟨S1x1024, .f32⟩
  | .hbm, ⟨5, _⟩ => ⟨S1x1024, .f32⟩
  | .hbm, ⟨6, _⟩ => ⟨S1, .f32⟩
  | .hbm, ⟨7, _⟩ => ⟨S512, .f32⟩
  | .hbm, ⟨8, _⟩ => ⟨S1024, .f32⟩
  | .hbm, ⟨9, _⟩ => ⟨S1024, .f32⟩
  | .hbm, ⟨10, _⟩ => ⟨S16, .f32⟩
  | .hbm, ⟨11, _⟩ => ⟨S1x1, .f32⟩
  | .hbm, ⟨12, _⟩ => ⟨S15360, .f32⟩
  | .hbm, ⟨13, _⟩ => ⟨S1024, .f32⟩
  | .hbm, ⟨14, _⟩ => ⟨S16384, .f32⟩
  | .local .tc .vmem, ⟨0, _⟩ => ⟨S1024x512, .f32⟩
  | .local .tc .vmem, ⟨1, _⟩ => ⟨S1024x512, .f32⟩
  | .local .tc .vmem, ⟨2, _⟩ => ⟨S1024x1024, .f32⟩
  | .local .tc .vmem, ⟨3, _⟩ => ⟨S1024x1024, .f32⟩
  | .local .tc .vmem, ⟨4, _⟩ => ⟨S1024x1024, .f32⟩
  | .local .tc .vmem, ⟨5, _⟩ => ⟨S1024x1024, .f32⟩
  | .local .tc .vmem, ⟨6, _⟩ => ⟨S1x512, .f32⟩
  | .local .tc .vmem, ⟨7, _⟩ => ⟨S1x1024, .f32⟩
  | .local .tc .vmem, ⟨8, _⟩ => ⟨S1x1024, .f32⟩
  | .local .tc .vmem, ⟨9, _⟩ => ⟨S1x1, .f32⟩
  | .local .tc .vmem, ⟨10, _⟩ => ⟨S1024, .f32⟩
  | .local .tc .vmem, ⟨11, _⟩ => ⟨S1024, .f32⟩
  | .local .scVector .vmem, ⟨0, _⟩ => ⟨S2x16x512, .f32⟩
  | .local .scVector .vmem, ⟨1, _⟩ => ⟨S2x16x1024, .f32⟩
  | .local .scVector .vmem, ⟨2, _⟩ => ⟨S2x16x1024, .f32⟩
  | .local .scVector .vmem, ⟨3, _⟩ => ⟨S512, .f32⟩
  | .local .scVector .vmem, ⟨4, _⟩ => ⟨S1024, .f32⟩
  | .local .scVector .vmem, ⟨5, _⟩ => ⟨S1024, .f32⟩
  | .local .scVector .vmem, ⟨6, _⟩ => ⟨S16, .f32⟩
  | .local .scVector .vmem, ⟨7, _⟩ => ⟨S2x16, .f32⟩
  | _, _ => ⟨S16384x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 7, rfl⟩
abbrev main_v1_scv : Ref sig .scVector := ⟨.hbm, 8, rfl⟩
abbrev main_v2_scv : Ref sig .scVector := ⟨.hbm, 9, rfl⟩
abbrev main_v3_scv : Ref sig .scVector := ⟨.hbm, 10, rfl⟩
abbrev main_v6_scv : Ref sig .scVector := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 16], ![false, false]⟩

def k1_off1 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.addi v2 c0_i32
  let c0_i32_3 : BitVec 32 := 0#32
  ![v3.toNat, 0]
def k1_off2 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.addi v2 c0_i32
  let c0_i32_10 : BitVec 32 := 0#32
  ![v3.toNat, 0]
def k1_off3 (i : grid1.Coords) (c0_i32_43 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_41 : BitVec 32 := 0#32
  let c2_i32_42 : BitVec 32 := 2#32
  let v42 : BitVec 32 := Scalar.muli c0_i32_41 c2_i32_42
  let v43 : BitVec 32 := Scalar.addi v42 c0_i32_43
  let c16_i32_44 : BitVec 32 := 16#32
  let v44 : BitVec 32 := Scalar.muli v43 c16_i32_44
  let v45 : BitVec 32 := Scalar.addi v2 v44
  let c0_i32_48 : BitVec 32 := 0#32
  ![v45.toNat, 0]
def k1_off4 (i : grid1.Coords) (c0_i32_43 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_41 : BitVec 32 := 0#32
  let c2_i32_42 : BitVec 32 := 2#32
  let v42 : BitVec 32 := Scalar.muli c0_i32_41 c2_i32_42
  let v43 : BitVec 32 := Scalar.addi v42 c0_i32_43
  let c16_i32_44 : BitVec 32 := 16#32
  let v44 : BitVec 32 := Scalar.muli v43 c16_i32_44
  let v45 : BitVec 32 := Scalar.addi v2 v44
  let c0_i32_55 : BitVec 32 := 0#32
  ![v45.toNat, 0]
@[reducible] def k1_t1_loop : Scf.Loop 32 :=
  let c0_i32_74 : BitVec 32 := 0#32
  let c32_i32_75 : BitVec 32 := 32#32
  let v73 : BitVec 32 := Scalar.addi c0_i32_74 c32_i32_75
  let c1_i32_76 : BitVec 32 := 1#32
  ⟨c0_i32_74, v73, c1_i32_76⟩
def k1_off5 (k1_t1 : Fin k1_t1_loop.trips) : Fin 1 → Nat :=
  let c0_i32_74 : BitVec 32 := 0#32
  let c1_i32_76 : BitVec 32 := 1#32
  let arg22 : BitVec 32 := Scf.iv c0_i32_74 c1_i32_76 k1_t1
  let c16_i32_211 : BitVec 32 := 16#32
  let v1810 : BitVec 32 := Scalar.muli arg22 c16_i32_211
  let v1811 : Index := Scalar.indexCast v1810
  ![v1811.toNat]
def k1_off6 (k1_t1 : Fin k1_t1_loop.trips) : Fin 3 → Nat :=
  let c0_i32_213 : BitVec 32 := 0#32
  let v1814 : Index := Scalar.indexCast c0_i32_213
  let c0_i32_214 : BitVec 32 := 0#32
  let v1815 : Index := Scalar.indexCast c0_i32_214
  let c0_i32_74 : BitVec 32 := 0#32
  let c1_i32_76 : BitVec 32 := 1#32
  let arg22 : BitVec 32 := Scf.iv c0_i32_74 c1_i32_76 k1_t1
  let c16_i32_212 : BitVec 32 := 16#32
  let v1813 : BitVec 32 := Scalar.muli arg22 c16_i32_212
  let v1816 : Index := Scalar.indexCast v1813
  ![0, 0, v1816.toNat]
def k1_off7 (k1_t1 : Fin k1_t1_loop.trips) : Fin 3 → Nat :=
  let c0_i32_216 : BitVec 32 := 0#32
  let v1821 : Index := Scalar.indexCast c0_i32_216
  let c1_i32_217 : BitVec 32 := 1#32
  let v1822 : Index := Scalar.indexCast c1_i32_217
  let c0_i32_74 : BitVec 32 := 0#32
  let c1_i32_76 : BitVec 32 := 1#32
  let arg22 : BitVec 32 := Scf.iv c0_i32_74 c1_i32_76 k1_t1
  let c16_i32_215 : BitVec 32 := 16#32
  let v1820 : BitVec 32 := Scalar.muli arg22 c16_i32_215
  let v1823 : Index := Scalar.indexCast v1820
  ![0, 1, v1823.toNat]
def k1_off8 (k1_t1 : Fin k1_t1_loop.trips) : Fin 3 → Nat :=
  let c0_i32_219 : BitVec 32 := 0#32
  let v1828 : Index := Scalar.indexCast c0_i32_219
  let c2_i32_220 : BitVec 32 := 2#32
  let v1829 : Index := Scalar.indexCast c2_i32_220
  let c0_i32_74 : BitVec 32 := 0#32
  let c1_i32_76 : BitVec 32 := 1#32
  let arg22 : BitVec 32 := Scf.iv c0_i32_74 c1_i32_76 k1_t1
  let c16_i32_218 : BitVec 32 := 16#32
  let v1827 : BitVec 32 := Scalar.muli arg22 c16_i32_218
  let v1830 : Index := Scalar.indexCast v1827
  ![0, 2, v1830.toNat]
def k1_off9 (k1_t1 : Fin k1_t1_loop.trips) : Fin 3 → Nat :=
  let c0_i32_222 : BitVec 32 := 0#32
  let v1835 : Index := Scalar.indexCast c0_i32_222
  let c3_i32_223 : BitVec 32 := 3#32
  let v1836 : Index := Scalar.indexCast c3_i32_223
  let c0_i32_74 : BitVec 32 := 0#32
  let c1_i32_76 : BitVec 32 := 1#32
  let arg22 : BitVec 32 := Scf.iv c0_i32_74 c1_i32_76 k1_t1
  let c16_i32_221 : BitVec 32 := 16#32
  let v1834 : BitVec 32 := Scalar.muli arg22 c16_i32_221
  let v1837 : Index := Scalar.indexCast v1834
  ![0, 3, v1837.toNat]
def k1_off10 (k1_t1 : Fin k1_t1_loop.trips) : Fin 3 → Nat :=
  let c0_i32_225 : BitVec 32 := 0#32
  let v1842 : Index := Scalar.indexCast c0_i32_225
  let c4_i32_226 : BitVec 32 := 4#32
  let v1843 : Index := Scalar.indexCast c4_i32_226
  let c0_i32_74 : BitVec 32 := 0#32
  let c1_i32_76 : BitVec 32 := 1#32
  let arg22 : BitVec 32 := Scf.iv c0_i32_74 c1_i32_76 k1_t1
  let c16_i32_224 : BitVec 32 := 16#32
  let v1841 : BitVec 32 := Scalar.muli arg22 c16_i32_224
  let v1844 : Index := Scalar.indexCast v1841
  ![0, 4, v1844.toNat]
def k1_off11 (k1_t1 : Fin k1_t1_loop.trips) : Fin 3 → Nat :=
  let c0_i32_228 : BitVec 32 := 0#32
  let v1849 : Index := Scalar.indexCast c0_i32_228
  let c5_i32_229 : BitVec 32 := 5#32
  let v1850 : Index := Scalar.indexCast c5_i32_229
  let c0_i32_74 : BitVec 32 := 0#32
  let c1_i32_76 : BitVec 32 := 1#32
  let arg22 : BitVec 32 := Scf.iv c0_i32_74 c1_i32_76 k1_t1
  let c16_i32_227 : BitVec 32 := 16#32
  let v1848 : BitVec 32 := Scalar.muli arg22 c16_i32_227
  let v1851 : Index := Scalar.indexCast v1848
  ![0, 5, v1851.toNat]
def k1_off12 (k1_t1 : Fin k1_t1_loop.trips) : Fin 3 → Nat :=
  let c0_i32_231 : BitVec 32 := 0#32
  let v1856 : Index := Scalar.indexCast c0_i32_231
  let c6_i32_232 : BitVec 32 := 6#32
  let v1857 : Index := Scalar.indexCast c6_i32_232
  let c0_i32_74 : BitVec 32 := 0#32
  let c1_i32_76 : BitVec 32 := 1#32
  let arg22 : BitVec 32 := Scf.iv c0_i32_74 c1_i32_76 k1_t1
  let c16_i32_230 : BitVec 32 := 16#32
  let v1855 : BitVec 32 := Scalar.muli arg22 c16_i32_230
  let v1858 : Index := Scalar.indexCast v1855
  ![0, 6, v1858.toNat]
def k1_off13 (k1_t1 : Fin k1_t1_loop.trips) : Fin 3 → Nat :=
  let c0_i32_234 : BitVec 32 := 0#32
  let v1863 : Index := Scalar.indexCast c0_i32_234
  let c7_i32_235 : BitVec 32 := 7#32
  let v1864 : Index := Scalar.indexCast c7_i32_235
  let c0_i32_74 : BitVec 32 := 0#32
  let c1_i32_76 : BitVec 32 := 1#32
  let arg22 : BitVec 32 := Scf.iv c0_i32_74 c1_i32_76 k1_t1
  let c16_i32_233 : BitVec 32 := 16#32
  let v1862 : BitVec 32 := Scalar.muli arg22 c16_i32_233
  let v1865 : Index := Scalar.indexCast v1862
  ![0, 7, v1865.toNat]
@[reducible] def k1_t2_loop : Scf.Loop 32 :=
  let c0_i32_78 : BitVec 32 := 0#32
  let c64_i32 : BitVec 32 := 64#32
  let v75 : BitVec 32 := Scalar.addi c0_i32_78 c64_i32
  let c1_i32_79 : BitVec 32 := 1#32
  ⟨c0_i32_78, v75, c1_i32_79⟩
def k1_off14 (k1_t2 : Fin k1_t2_loop.trips) : Fin 1 → Nat :=
  let c0_i32_78 : BitVec 32 := 0#32
  let c1_i32_79 : BitVec 32 := 1#32
  let arg22 : BitVec 32 := Scf.iv c0_i32_78 c1_i32_79 k1_t2
  let c16_i32_211 : BitVec 32 := 16#32
  let v1810 : BitVec 32 := Scalar.muli arg22 c16_i32_211
  let v1811 : Index := Scalar.indexCast v1810
  ![v1811.toNat]
def k1_off15 (k1_t2 : Fin k1_t2_loop.trips) : Fin 3 → Nat :=
  let c0_i32_213 : BitVec 32 := 0#32
  let v1814 : Index := Scalar.indexCast c0_i32_213
  let c0_i32_214 : BitVec 32 := 0#32
  let v1815 : Index := Scalar.indexCast c0_i32_214
  let c0_i32_78 : BitVec 32 := 0#32
  let c1_i32_79 : BitVec 32 := 1#32
  let arg22 : BitVec 32 := Scf.iv c0_i32_78 c1_i32_79 k1_t2
  let c16_i32_212 : BitVec 32 := 16#32
  let v1813 : BitVec 32 := Scalar.muli arg22 c16_i32_212
  let v1816 : Index := Scalar.indexCast v1813
  ![0, 0, v1816.toNat]
def k1_off16 (k1_t2 : Fin k1_t2_loop.trips) : Fin 3 → Nat :=
  let c0_i32_216 : BitVec 32 := 0#32
  let v1821 : Index := Scalar.indexCast c0_i32_216
  let c1_i32_217 : BitVec 32 := 1#32
  let v1822 : Index := Scalar.indexCast c1_i32_217
  let c0_i32_78 : BitVec 32 := 0#32
  let c1_i32_79 : BitVec 32 := 1#32
  let arg22 : BitVec 32 := Scf.iv c0_i32_78 c1_i32_79 k1_t2
  let c16_i32_215 : BitVec 32 := 16#32
  let v1820 : BitVec 32 := Scalar.muli arg22 c16_i32_215
  let v1823 : Index := Scalar.indexCast v1820
  ![0, 1, v1823.toNat]
def k1_off17 (k1_t2 : Fin k1_t2_loop.trips) : Fin 3 → Nat :=
  let c0_i32_219 : BitVec 32 := 0#32
  let v1828 : Index := Scalar.indexCast c0_i32_219
  let c2_i32_220 : BitVec 32 := 2#32
  let v1829 : Index := Scalar.indexCast c2_i32_220
  let c0_i32_78 : BitVec 32 := 0#32
  let c1_i32_79 : BitVec 32 := 1#32
  let arg22 : BitVec 32 := Scf.iv c0_i32_78 c1_i32_79 k1_t2
  let c16_i32_218 : BitVec 32 := 16#32
  let v1827 : BitVec 32 := Scalar.muli arg22 c16_i32_218
  let v1830 : Index := Scalar.indexCast v1827
  ![0, 2, v1830.toNat]
def k1_off18 (k1_t2 : Fin k1_t2_loop.trips) : Fin 3 → Nat :=
  let c0_i32_222 : BitVec 32 := 0#32
  let v1835 : Index := Scalar.indexCast c0_i32_222
  let c3_i32_223 : BitVec 32 := 3#32
  let v1836 : Index := Scalar.indexCast c3_i32_223
  let c0_i32_78 : BitVec 32 := 0#32
  let c1_i32_79 : BitVec 32 := 1#32
  let arg22 : BitVec 32 := Scf.iv c0_i32_78 c1_i32_79 k1_t2
  let c16_i32_221 : BitVec 32 := 16#32
  let v1834 : BitVec 32 := Scalar.muli arg22 c16_i32_221
  let v1837 : Index := Scalar.indexCast v1834
  ![0, 3, v1837.toNat]
def k1_off19 (k1_t2 : Fin k1_t2_loop.trips) : Fin 3 → Nat :=
  let c0_i32_225 : BitVec 32 := 0#32
  let v1842 : Index := Scalar.indexCast c0_i32_225
  let c4_i32_226 : BitVec 32 := 4#32
  let v1843 : Index := Scalar.indexCast c4_i32_226
  let c0_i32_78 : BitVec 32 := 0#32
  let c1_i32_79 : BitVec 32 := 1#32
  let arg22 : BitVec 32 := Scf.iv c0_i32_78 c1_i32_79 k1_t2
  let c16_i32_224 : BitVec 32 := 16#32
  let v1841 : BitVec 32 := Scalar.muli arg22 c16_i32_224
  let v1844 : Index := Scalar.indexCast v1841
  ![0, 4, v1844.toNat]
def k1_off20 (k1_t2 : Fin k1_t2_loop.trips) : Fin 3 → Nat :=
  let c0_i32_228 : BitVec 32 := 0#32
  let v1849 : Index := Scalar.indexCast c0_i32_228
  let c5_i32_229 : BitVec 32 := 5#32
  let v1850 : Index := Scalar.indexCast c5_i32_229
  let c0_i32_78 : BitVec 32 := 0#32
  let c1_i32_79 : BitVec 32 := 1#32
  let arg22 : BitVec 32 := Scf.iv c0_i32_78 c1_i32_79 k1_t2
  let c16_i32_227 : BitVec 32 := 16#32
  let v1848 : BitVec 32 := Scalar.muli arg22 c16_i32_227
  let v1851 : Index := Scalar.indexCast v1848
  ![0, 5, v1851.toNat]
def k1_off21 (k1_t2 : Fin k1_t2_loop.trips) : Fin 3 → Nat :=
  let c0_i32_231 : BitVec 32 := 0#32
  let v1856 : Index := Scalar.indexCast c0_i32_231
  let c6_i32_232 : BitVec 32 := 6#32
  let v1857 : Index := Scalar.indexCast c6_i32_232
  let c0_i32_78 : BitVec 32 := 0#32
  let c1_i32_79 : BitVec 32 := 1#32
  let arg22 : BitVec 32 := Scf.iv c0_i32_78 c1_i32_79 k1_t2
  let c16_i32_230 : BitVec 32 := 16#32
  let v1855 : BitVec 32 := Scalar.muli arg22 c16_i32_230
  let v1858 : Index := Scalar.indexCast v1855
  ![0, 6, v1858.toNat]
def k1_off22 (k1_t2 : Fin k1_t2_loop.trips) : Fin 3 → Nat :=
  let c0_i32_234 : BitVec 32 := 0#32
  let v1863 : Index := Scalar.indexCast c0_i32_234
  let c7_i32_235 : BitVec 32 := 7#32
  let v1864 : Index := Scalar.indexCast c7_i32_235
  let c0_i32_78 : BitVec 32 := 0#32
  let c1_i32_79 : BitVec 32 := 1#32
  let arg22 : BitVec 32 := Scf.iv c0_i32_78 c1_i32_79 k1_t2
  let c16_i32_233 : BitVec 32 := 16#32
  let v1862 : BitVec 32 := Scalar.muli arg22 c16_i32_233
  let v1865 : Index := Scalar.indexCast v1862
  ![0, 7, v1865.toNat]
@[reducible] def k1_t3_loop : Scf.Loop 32 :=
  let c0_i32_81 : BitVec 32 := 0#32
  let c64_i32_82 : BitVec 32 := 64#32
  let v77 : BitVec 32 := Scalar.addi c0_i32_81 c64_i32_82
  let c1_i32_83 : BitVec 32 := 1#32
  ⟨c0_i32_81, v77, c1_i32_83⟩
def k1_off23 (k1_t3 : Fin k1_t3_loop.trips) : Fin 1 → Nat :=
  let c0_i32_81 : BitVec 32 := 0#32
  let c1_i32_83 : BitVec 32 := 1#32
  let arg22 : BitVec 32 := Scf.iv c0_i32_81 c1_i32_83 k1_t3
  let c16_i32_211 : BitVec 32 := 16#32
  let v1810 : BitVec 32 := Scalar.muli arg22 c16_i32_211
  let v1811 : Index := Scalar.indexCast v1810
  ![v1811.toNat]
def k1_off24 (k1_t3 : Fin k1_t3_loop.trips) : Fin 3 → Nat :=
  let c0_i32_213 : BitVec 32 := 0#32
  let v1814 : Index := Scalar.indexCast c0_i32_213
  let c0_i32_214 : BitVec 32 := 0#32
  let v1815 : Index := Scalar.indexCast c0_i32_214
  let c0_i32_81 : BitVec 32 := 0#32
  let c1_i32_83 : BitVec 32 := 1#32
  let arg22 : BitVec 32 := Scf.iv c0_i32_81 c1_i32_83 k1_t3
  let c16_i32_212 : BitVec 32 := 16#32
  let v1813 : BitVec 32 := Scalar.muli arg22 c16_i32_212
  let v1816 : Index := Scalar.indexCast v1813
  ![0, 0, v1816.toNat]
def k1_off25 (k1_t3 : Fin k1_t3_loop.trips) : Fin 3 → Nat :=
  let c0_i32_216 : BitVec 32 := 0#32
  let v1821 : Index := Scalar.indexCast c0_i32_216
  let c1_i32_217 : BitVec 32 := 1#32
  let v1822 : Index := Scalar.indexCast c1_i32_217
  let c0_i32_81 : BitVec 32 := 0#32
  let c1_i32_83 : BitVec 32 := 1#32
  let arg22 : BitVec 32 := Scf.iv c0_i32_81 c1_i32_83 k1_t3
  let c16_i32_215 : BitVec 32 := 16#32
  let v1820 : BitVec 32 := Scalar.muli arg22 c16_i32_215
  let v1823 : Index := Scalar.indexCast v1820
  ![0, 1, v1823.toNat]
def k1_off26 (k1_t3 : Fin k1_t3_loop.trips) : Fin 3 → Nat :=
  let c0_i32_219 : BitVec 32 := 0#32
  let v1828 : Index := Scalar.indexCast c0_i32_219
  let c2_i32_220 : BitVec 32 := 2#32
  let v1829 : Index := Scalar.indexCast c2_i32_220
  let c0_i32_81 : BitVec 32 := 0#32
  let c1_i32_83 : BitVec 32 := 1#32
  let arg22 : BitVec 32 := Scf.iv c0_i32_81 c1_i32_83 k1_t3
  let c16_i32_218 : BitVec 32 := 16#32
  let v1827 : BitVec 32 := Scalar.muli arg22 c16_i32_218
  let v1830 : Index := Scalar.indexCast v1827
  ![0, 2, v1830.toNat]
def k1_off27 (k1_t3 : Fin k1_t3_loop.trips) : Fin 3 → Nat :=
  let c0_i32_222 : BitVec 32 := 0#32
  let v1835 : Index := Scalar.indexCast c0_i32_222
  let c3_i32_223 : BitVec 32 := 3#32
  let v1836 : Index := Scalar.indexCast c3_i32_223
  let c0_i32_81 : BitVec 32 := 0#32
  let c1_i32_83 : BitVec 32 := 1#32
  let arg22 : BitVec 32 := Scf.iv c0_i32_81 c1_i32_83 k1_t3
  let c16_i32_221 : BitVec 32 := 16#32
  let v1834 : BitVec 32 := Scalar.muli arg22 c16_i32_221
  let v1837 : Index := Scalar.indexCast v1834
  ![0, 3, v1837.toNat]
def k1_off28 (k1_t3 : Fin k1_t3_loop.trips) : Fin 3 → Nat :=
  let c0_i32_225 : BitVec 32 := 0#32
  let v1842 : Index := Scalar.indexCast c0_i32_225
  let c4_i32_226 : BitVec 32 := 4#32
  let v1843 : Index := Scalar.indexCast c4_i32_226
  let c0_i32_81 : BitVec 32 := 0#32
  let c1_i32_83 : BitVec 32 := 1#32
  let arg22 : BitVec 32 := Scf.iv c0_i32_81 c1_i32_83 k1_t3
  let c16_i32_224 : BitVec 32 := 16#32
  let v1841 : BitVec 32 := Scalar.muli arg22 c16_i32_224
  let v1844 : Index := Scalar.indexCast v1841
  ![0, 4, v1844.toNat]
def k1_off29 (k1_t3 : Fin k1_t3_loop.trips) : Fin 3 → Nat :=
  let c0_i32_228 : BitVec 32 := 0#32
  let v1849 : Index := Scalar.indexCast c0_i32_228
  let c5_i32_229 : BitVec 32 := 5#32
  let v1850 : Index := Scalar.indexCast c5_i32_229
  let c0_i32_81 : BitVec 32 := 0#32
  let c1_i32_83 : BitVec 32 := 1#32
  let arg22 : BitVec 32 := Scf.iv c0_i32_81 c1_i32_83 k1_t3
  let c16_i32_227 : BitVec 32 := 16#32
  let v1848 : BitVec 32 := Scalar.muli arg22 c16_i32_227
  let v1851 : Index := Scalar.indexCast v1848
  ![0, 5, v1851.toNat]
def k1_off30 (k1_t3 : Fin k1_t3_loop.trips) : Fin 3 → Nat :=
  let c0_i32_231 : BitVec 32 := 0#32
  let v1856 : Index := Scalar.indexCast c0_i32_231
  let c6_i32_232 : BitVec 32 := 6#32
  let v1857 : Index := Scalar.indexCast c6_i32_232
  let c0_i32_81 : BitVec 32 := 0#32
  let c1_i32_83 : BitVec 32 := 1#32
  let arg22 : BitVec 32 := Scf.iv c0_i32_81 c1_i32_83 k1_t3
  let c16_i32_230 : BitVec 32 := 16#32
  let v1855 : BitVec 32 := Scalar.muli arg22 c16_i32_230
  let v1858 : Index := Scalar.indexCast v1855
  ![0, 6, v1858.toNat]
def k1_off31 (k1_t3 : Fin k1_t3_loop.trips) : Fin 3 → Nat :=
  let c0_i32_234 : BitVec 32 := 0#32
  let v1863 : Index := Scalar.indexCast c0_i32_234
  let c7_i32_235 : BitVec 32 := 7#32
  let v1864 : Index := Scalar.indexCast c7_i32_235
  let c0_i32_81 : BitVec 32 := 0#32
  let c1_i32_83 : BitVec 32 := 1#32
  let arg22 : BitVec 32 := Scf.iv c0_i32_81 c1_i32_83 k1_t3
  let c16_i32_233 : BitVec 32 := 16#32
  let v1862 : BitVec 32 := Scalar.muli arg22 c16_i32_233
  let v1865 : Index := Scalar.indexCast v1862
  ![0, 7, v1865.toNat]
@[reducible] def k1_t4_loop : Scf.Loop 32 :=
  let c0_i32_96 : BitVec 32 := 0#32
  let c32_i32_97 : BitVec 32 := 32#32
  let v495 : BitVec 32 := Scalar.addi c0_i32_96 c32_i32_97
  let c1_i32_98 : BitVec 32 := 1#32
  ⟨c0_i32_96, v495, c1_i32_98⟩
def k1_off32 (k1_t4 : Fin k1_t4_loop.trips) : Fin 1 → Nat :=
  let c0_i32_96 : BitVec 32 := 0#32
  let c1_i32_98 : BitVec 32 := 1#32
  let arg22 : BitVec 32 := Scf.iv c0_i32_96 c1_i32_98 k1_t4
  let c16_i32_211 : BitVec 32 := 16#32
  let v1810 : BitVec 32 := Scalar.muli arg22 c16_i32_211
  let v1811 : Index := Scalar.indexCast v1810
  ![v1811.toNat]
def k1_off33 (k1_t4 : Fin k1_t4_loop.trips) : Fin 3 → Nat :=
  let c0_i32_213 : BitVec 32 := 0#32
  let v1814 : Index := Scalar.indexCast c0_i32_213
  let c8_i32_214 : BitVec 32 := 8#32
  let v1815 : Index := Scalar.indexCast c8_i32_214
  let c0_i32_96 : BitVec 32 := 0#32
  let c1_i32_98 : BitVec 32 := 1#32
  let arg22 : BitVec 32 := Scf.iv c0_i32_96 c1_i32_98 k1_t4
  let c16_i32_212 : BitVec 32 := 16#32
  let v1813 : BitVec 32 := Scalar.muli arg22 c16_i32_212
  let v1816 : Index := Scalar.indexCast v1813
  ![0, 8, v1816.toNat]
def k1_off34 (k1_t4 : Fin k1_t4_loop.trips) : Fin 3 → Nat :=
  let c0_i32_216 : BitVec 32 := 0#32
  let v1821 : Index := Scalar.indexCast c0_i32_216
  let c9_i32_217 : BitVec 32 := 9#32
  let v1822 : Index := Scalar.indexCast c9_i32_217
  let c0_i32_96 : BitVec 32 := 0#32
  let c1_i32_98 : BitVec 32 := 1#32
  let arg22 : BitVec 32 := Scf.iv c0_i32_96 c1_i32_98 k1_t4
  let c16_i32_215 : BitVec 32 := 16#32
  let v1820 : BitVec 32 := Scalar.muli arg22 c16_i32_215
  let v1823 : Index := Scalar.indexCast v1820
  ![0, 9, v1823.toNat]
def k1_off35 (k1_t4 : Fin k1_t4_loop.trips) : Fin 3 → Nat :=
  let c0_i32_219 : BitVec 32 := 0#32
  let v1828 : Index := Scalar.indexCast c0_i32_219
  let c10_i32_220 : BitVec 32 := 10#32
  let v1829 : Index := Scalar.indexCast c10_i32_220
  let c0_i32_96 : BitVec 32 := 0#32
  let c1_i32_98 : BitVec 32 := 1#32
  let arg22 : BitVec 32 := Scf.iv c0_i32_96 c1_i32_98 k1_t4
  let c16_i32_218 : BitVec 32 := 16#32
  let v1827 : BitVec 32 := Scalar.muli arg22 c16_i32_218
  let v1830 : Index := Scalar.indexCast v1827
  ![0, 10, v1830.toNat]
def k1_off36 (k1_t4 : Fin k1_t4_loop.trips) : Fin 3 → Nat :=
  let c0_i32_222 : BitVec 32 := 0#32
  let v1835 : Index := Scalar.indexCast c0_i32_222
  let c11_i32_223 : BitVec 32 := 11#32
  let v1836 : Index := Scalar.indexCast c11_i32_223
  let c0_i32_96 : BitVec 32 := 0#32
  let c1_i32_98 : BitVec 32 := 1#32
  let arg22 : BitVec 32 := Scf.iv c0_i32_96 c1_i32_98 k1_t4
  let c16_i32_221 : BitVec 32 := 16#32
  let v1834 : BitVec 32 := Scalar.muli arg22 c16_i32_221
  let v1837 : Index := Scalar.indexCast v1834
  ![0, 11, v1837.toNat]
def k1_off37 (k1_t4 : Fin k1_t4_loop.trips) : Fin 3 → Nat :=
  let c0_i32_225 : BitVec 32 := 0#32
  let v1842 : Index := Scalar.indexCast c0_i32_225
  let c12_i32_226 : BitVec 32 := 12#32
  let v1843 : Index := Scalar.indexCast c12_i32_226
  let c0_i32_96 : BitVec 32 := 0#32
  let c1_i32_98 : BitVec 32 := 1#32
  let arg22 : BitVec 32 := Scf.iv c0_i32_96 c1_i32_98 k1_t4
  let c16_i32_224 : BitVec 32 := 16#32
  let v1841 : BitVec 32 := Scalar.muli arg22 c16_i32_224
  let v1844 : Index := Scalar.indexCast v1841
  ![0, 12, v1844.toNat]
def k1_off38 (k1_t4 : Fin k1_t4_loop.trips) : Fin 3 → Nat :=
  let c0_i32_228 : BitVec 32 := 0#32
  let v1849 : Index := Scalar.indexCast c0_i32_228
  let c13_i32_229 : BitVec 32 := 13#32
  let v1850 : Index := Scalar.indexCast c13_i32_229
  let c0_i32_96 : BitVec 32 := 0#32
  let c1_i32_98 : BitVec 32 := 1#32
  let arg22 : BitVec 32 := Scf.iv c0_i32_96 c1_i32_98 k1_t4
  let c16_i32_227 : BitVec 32 := 16#32
  let v1848 : BitVec 32 := Scalar.muli arg22 c16_i32_227
  let v1851 : Index := Scalar.indexCast v1848
  ![0, 13, v1851.toNat]
def k1_off39 (k1_t4 : Fin k1_t4_loop.trips) : Fin 3 → Nat :=
  let c0_i32_231 : BitVec 32 := 0#32
  let v1856 : Index := Scalar.indexCast c0_i32_231
  let c14_i32_232 : BitVec 32 := 14#32
  let v1857 : Index := Scalar.indexCast c14_i32_232
  let c0_i32_96 : BitVec 32 := 0#32
  let c1_i32_98 : BitVec 32 := 1#32
  let arg22 : BitVec 32 := Scf.iv c0_i32_96 c1_i32_98 k1_t4
  let c16_i32_230 : BitVec 32 := 16#32
  let v1855 : BitVec 32 := Scalar.muli arg22 c16_i32_230
  let v1858 : Index := Scalar.indexCast v1855
  ![0, 14, v1858.toNat]
def k1_off40 (k1_t4 : Fin k1_t4_loop.trips) : Fin 3 → Nat :=
  let c0_i32_234 : BitVec 32 := 0#32
  let v1863 : Index := Scalar.indexCast c0_i32_234
  let c15_i32_235 : BitVec 32 := 15#32
  let v1864 : Index := Scalar.indexCast c15_i32_235
  let c0_i32_96 : BitVec 32 := 0#32
  let c1_i32_98 : BitVec 32 := 1#32
  let arg22 : BitVec 32 := Scf.iv c0_i32_96 c1_i32_98 k1_t4
  let c16_i32_233 : BitVec 32 := 16#32
  let v1862 : BitVec 32 := Scalar.muli arg22 c16_i32_233
  let v1865 : Index := Scalar.indexCast v1862
  ![0, 15, v1865.toNat]
@[reducible] def k1_t5_loop : Scf.Loop 32 :=
  let c0_i32_100 : BitVec 32 := 0#32
  let c64_i32_101 : BitVec 32 := 64#32
  let v497 : BitVec 32 := Scalar.addi c0_i32_100 c64_i32_101
  let c1_i32_102 : BitVec 32 := 1#32
  ⟨c0_i32_100, v497, c1_i32_102⟩
def k1_off41 (k1_t5 : Fin k1_t5_loop.trips) : Fin 1 → Nat :=
  let c0_i32_100 : BitVec 32 := 0#32
  let c1_i32_102 : BitVec 32 := 1#32
  let arg22 : BitVec 32 := Scf.iv c0_i32_100 c1_i32_102 k1_t5
  let c16_i32_211 : BitVec 32 := 16#32
  let v1810 : BitVec 32 := Scalar.muli arg22 c16_i32_211
  let v1811 : Index := Scalar.indexCast v1810
  ![v1811.toNat]
def k1_off42 (k1_t5 : Fin k1_t5_loop.trips) : Fin 3 → Nat :=
  let c0_i32_213 : BitVec 32 := 0#32
  let v1814 : Index := Scalar.indexCast c0_i32_213
  let c8_i32_214 : BitVec 32 := 8#32
  let v1815 : Index := Scalar.indexCast c8_i32_214
  let c0_i32_100 : BitVec 32 := 0#32
  let c1_i32_102 : BitVec 32 := 1#32
  let arg22 : BitVec 32 := Scf.iv c0_i32_100 c1_i32_102 k1_t5
  let c16_i32_212 : BitVec 32 := 16#32
  let v1813 : BitVec 32 := Scalar.muli arg22 c16_i32_212
  let v1816 : Index := Scalar.indexCast v1813
  ![0, 8, v1816.toNat]
def k1_off43 (k1_t5 : Fin k1_t5_loop.trips) : Fin 3 → Nat :=
  let c0_i32_216 : BitVec 32 := 0#32
  let v1821 : Index := Scalar.indexCast c0_i32_216
  let c9_i32_217 : BitVec 32 := 9#32
  let v1822 : Index := Scalar.indexCast c9_i32_217
  let c0_i32_100 : BitVec 32 := 0#32
  let c1_i32_102 : BitVec 32 := 1#32
  let arg22 : BitVec 32 := Scf.iv c0_i32_100 c1_i32_102 k1_t5
  let c16_i32_215 : BitVec 32 := 16#32
  let v1820 : BitVec 32 := Scalar.muli arg22 c16_i32_215
  let v1823 : Index := Scalar.indexCast v1820
  ![0, 9, v1823.toNat]
def k1_off44 (k1_t5 : Fin k1_t5_loop.trips) : Fin 3 → Nat :=
  let c0_i32_219 : BitVec 32 := 0#32
  let v1828 : Index := Scalar.indexCast c0_i32_219
  let c10_i32_220 : BitVec 32 := 10#32
  let v1829 : Index := Scalar.indexCast c10_i32_220
  let c0_i32_100 : BitVec 32 := 0#32
  let c1_i32_102 : BitVec 32 := 1#32
  let arg22 : BitVec 32 := Scf.iv c0_i32_100 c1_i32_102 k1_t5
  let c16_i32_218 : BitVec 32 := 16#32
  let v1827 : BitVec 32 := Scalar.muli arg22 c16_i32_218
  let v1830 : Index := Scalar.indexCast v1827
  ![0, 10, v1830.toNat]
def k1_off45 (k1_t5 : Fin k1_t5_loop.trips) : Fin 3 → Nat :=
  let c0_i32_222 : BitVec 32 := 0#32
  let v1835 : Index := Scalar.indexCast c0_i32_222
  let c11_i32_223 : BitVec 32 := 11#32
  let v1836 : Index := Scalar.indexCast c11_i32_223
  let c0_i32_100 : BitVec 32 := 0#32
  let c1_i32_102 : BitVec 32 := 1#32
  let arg22 : BitVec 32 := Scf.iv c0_i32_100 c1_i32_102 k1_t5
  let c16_i32_221 : BitVec 32 := 16#32
  let v1834 : BitVec 32 := Scalar.muli arg22 c16_i32_221
  let v1837 : Index := Scalar.indexCast v1834
  ![0, 11, v1837.toNat]
def k1_off46 (k1_t5 : Fin k1_t5_loop.trips) : Fin 3 → Nat :=
  let c0_i32_225 : BitVec 32 := 0#32
  let v1842 : Index := Scalar.indexCast c0_i32_225
  let c12_i32_226 : BitVec 32 := 12#32
  let v1843 : Index := Scalar.indexCast c12_i32_226
  let c0_i32_100 : BitVec 32 := 0#32
  let c1_i32_102 : BitVec 32 := 1#32
  let arg22 : BitVec 32 := Scf.iv c0_i32_100 c1_i32_102 k1_t5
  let c16_i32_224 : BitVec 32 := 16#32
  let v1841 : BitVec 32 := Scalar.muli arg22 c16_i32_224
  let v1844 : Index := Scalar.indexCast v1841
  ![0, 12, v1844.toNat]
def k1_off47 (k1_t5 : Fin k1_t5_loop.trips) : Fin 3 → Nat :=
  let c0_i32_228 : BitVec 32 := 0#32
  let v1849 : Index := Scalar.indexCast c0_i32_228
  let c13_i32_229 : BitVec 32 := 13#32
  let v1850 : Index := Scalar.indexCast c13_i32_229
  let c0_i32_100 : BitVec 32 := 0#32
  let c1_i32_102 : BitVec 32 := 1#32
  let arg22 : BitVec 32 := Scf.iv c0_i32_100 c1_i32_102 k1_t5
  let c16_i32_227 : BitVec 32 := 16#32
  let v1848 : BitVec 32 := Scalar.muli arg22 c16_i32_227
  let v1851 : Index := Scalar.indexCast v1848
  ![0, 13, v1851.toNat]
def k1_off48 (k1_t5 : Fin k1_t5_loop.trips) : Fin 3 → Nat :=
  let c0_i32_231 : BitVec 32 := 0#32
  let v1856 : Index := Scalar.indexCast c0_i32_231
  let c14_i32_232 : BitVec 32 := 14#32
  let v1857 : Index := Scalar.indexCast c14_i32_232
  let c0_i32_100 : BitVec 32 := 0#32
  let c1_i32_102 : BitVec 32 := 1#32
  let arg22 : BitVec 32 := Scf.iv c0_i32_100 c1_i32_102 k1_t5
  let c16_i32_230 : BitVec 32 := 16#32
  let v1855 : BitVec 32 := Scalar.muli arg22 c16_i32_230
  let v1858 : Index := Scalar.indexCast v1855
  ![0, 14, v1858.toNat]
def k1_off49 (k1_t5 : Fin k1_t5_loop.trips) : Fin 3 → Nat :=
  let c0_i32_234 : BitVec 32 := 0#32
  let v1863 : Index := Scalar.indexCast c0_i32_234
  let c15_i32_235 : BitVec 32 := 15#32
  let v1864 : Index := Scalar.indexCast c15_i32_235
  let c0_i32_100 : BitVec 32 := 0#32
  let c1_i32_102 : BitVec 32 := 1#32
  let arg22 : BitVec 32 := Scf.iv c0_i32_100 c1_i32_102 k1_t5
  let c16_i32_233 : BitVec 32 := 16#32
  let v1862 : BitVec 32 := Scalar.muli arg22 c16_i32_233
  let v1865 : Index := Scalar.indexCast v1862
  ![0, 15, v1865.toNat]
@[reducible] def k1_t6_loop : Scf.Loop 32 :=
  let c0_i32_104 : BitVec 32 := 0#32
  let c64_i32_105 : BitVec 32 := 64#32
  let v499 : BitVec 32 := Scalar.addi c0_i32_104 c64_i32_105
  let c1_i32_106 : BitVec 32 := 1#32
  ⟨c0_i32_104, v499, c1_i32_106⟩
def k1_off50 (k1_t6 : Fin k1_t6_loop.trips) : Fin 1 → Nat :=
  let c0_i32_104 : BitVec 32 := 0#32
  let c1_i32_106 : BitVec 32 := 1#32
  let arg22 : BitVec 32 := Scf.iv c0_i32_104 c1_i32_106 k1_t6
  let c16_i32_211 : BitVec 32 := 16#32
  let v1810 : BitVec 32 := Scalar.muli arg22 c16_i32_211
  let v1811 : Index := Scalar.indexCast v1810
  ![v1811.toNat]
def k1_off51 (k1_t6 : Fin k1_t6_loop.trips) : Fin 3 → Nat :=
  let c0_i32_213 : BitVec 32 := 0#32
  let v1814 : Index := Scalar.indexCast c0_i32_213
  let c8_i32_214 : BitVec 32 := 8#32
  let v1815 : Index := Scalar.indexCast c8_i32_214
  let c0_i32_104 : BitVec 32 := 0#32
  let c1_i32_106 : BitVec 32 := 1#32
  let arg22 : BitVec 32 := Scf.iv c0_i32_104 c1_i32_106 k1_t6
  let c16_i32_212 : BitVec 32 := 16#32
  let v1813 : BitVec 32 := Scalar.muli arg22 c16_i32_212
  let v1816 : Index := Scalar.indexCast v1813
  ![0, 8, v1816.toNat]
def k1_off52 (k1_t6 : Fin k1_t6_loop.trips) : Fin 3 → Nat :=
  let c0_i32_216 : BitVec 32 := 0#32
  let v1821 : Index := Scalar.indexCast c0_i32_216
  let c9_i32_217 : BitVec 32 := 9#32
  let v1822 : Index := Scalar.indexCast c9_i32_217
  let c0_i32_104 : BitVec 32 := 0#32
  let c1_i32_106 : BitVec 32 := 1#32
  let arg22 : BitVec 32 := Scf.iv c0_i32_104 c1_i32_106 k1_t6
  let c16_i32_215 : BitVec 32 := 16#32
  let v1820 : BitVec 32 := Scalar.muli arg22 c16_i32_215
  let v1823 : Index := Scalar.indexCast v1820
  ![0, 9, v1823.toNat]
def k1_off53 (k1_t6 : Fin k1_t6_loop.trips) : Fin 3 → Nat :=
  let c0_i32_219 : BitVec 32 := 0#32
  let v1828 : Index := Scalar.indexCast c0_i32_219
  let c10_i32_220 : BitVec 32 := 10#32
  let v1829 : Index := Scalar.indexCast c10_i32_220
  let c0_i32_104 : BitVec 32 := 0#32
  let c1_i32_106 : BitVec 32 := 1#32
  let arg22 : BitVec 32 := Scf.iv c0_i32_104 c1_i32_106 k1_t6
  let c16_i32_218 : BitVec 32 := 16#32
  let v1827 : BitVec 32 := Scalar.muli arg22 c16_i32_218
  let v1830 : Index := Scalar.indexCast v1827
  ![0, 10, v1830.toNat]
def k1_off54 (k1_t6 : Fin k1_t6_loop.trips) : Fin 3 → Nat :=
  let c0_i32_222 : BitVec 32 := 0#32
  let v1835 : Index := Scalar.indexCast c0_i32_222
  let c11_i32_223 : BitVec 32 := 11#32
  let v1836 : Index := Scalar.indexCast c11_i32_223
  let c0_i32_104 : BitVec 32 := 0#32
  let c1_i32_106 : BitVec 32 := 1#32
  let arg22 : BitVec 32 := Scf.iv c0_i32_104 c1_i32_106 k1_t6
  let c16_i32_221 : BitVec 32 := 16#32
  let v1834 : BitVec 32 := Scalar.muli arg22 c16_i32_221
  let v1837 : Index := Scalar.indexCast v1834
  ![0, 11, v1837.toNat]
def k1_off55 (k1_t6 : Fin k1_t6_loop.trips) : Fin 3 → Nat :=
  let c0_i32_225 : BitVec 32 := 0#32
  let v1842 : Index := Scalar.indexCast c0_i32_225
  let c12_i32_226 : BitVec 32 := 12#32
  let v1843 : Index := Scalar.indexCast c12_i32_226
  let c0_i32_104 : BitVec 32 := 0#32
  let c1_i32_106 : BitVec 32 := 1#32
  let arg22 : BitVec 32 := Scf.iv c0_i32_104 c1_i32_106 k1_t6
  let c16_i32_224 : BitVec 32 := 16#32
  let v1841 : BitVec 32 := Scalar.muli arg22 c16_i32_224
  let v1844 : Index := Scalar.indexCast v1841
  ![0, 12, v1844.toNat]
def k1_off56 (k1_t6 : Fin k1_t6_loop.trips) : Fin 3 → Nat :=
  let c0_i32_228 : BitVec 32 := 0#32
  let v1849 : Index := Scalar.indexCast c0_i32_228
  let c13_i32_229 : BitVec 32 := 13#32
  let v1850 : Index := Scalar.indexCast c13_i32_229
  let c0_i32_104 : BitVec 32 := 0#32
  let c1_i32_106 : BitVec 32 := 1#32
  let arg22 : BitVec 32 := Scf.iv c0_i32_104 c1_i32_106 k1_t6
  let c16_i32_227 : BitVec 32 := 16#32
  let v1848 : BitVec 32 := Scalar.muli arg22 c16_i32_227
  let v1851 : Index := Scalar.indexCast v1848
  ![0, 13, v1851.toNat]
def k1_off57 (k1_t6 : Fin k1_t6_loop.trips) : Fin 3 → Nat :=
  let c0_i32_231 : BitVec 32 := 0#32
  let v1856 : Index := Scalar.indexCast c0_i32_231
  let c14_i32_232 : BitVec 32 := 14#32
  let v1857 : Index := Scalar.indexCast c14_i32_232
  let c0_i32_104 : BitVec 32 := 0#32
  let c1_i32_106 : BitVec 32 := 1#32
  let arg22 : BitVec 32 := Scf.iv c0_i32_104 c1_i32_106 k1_t6
  let c16_i32_230 : BitVec 32 := 16#32
  let v1855 : BitVec 32 := Scalar.muli arg22 c16_i32_230
  let v1858 : Index := Scalar.indexCast v1855
  ![0, 14, v1858.toNat]
def k1_off58 (k1_t6 : Fin k1_t6_loop.trips) : Fin 3 → Nat :=
  let c0_i32_234 : BitVec 32 := 0#32
  let v1863 : Index := Scalar.indexCast c0_i32_234
  let c15_i32_235 : BitVec 32 := 15#32
  let v1864 : Index := Scalar.indexCast c15_i32_235
  let c0_i32_104 : BitVec 32 := 0#32
  let c1_i32_106 : BitVec 32 := 1#32
  let arg22 : BitVec 32 := Scf.iv c0_i32_104 c1_i32_106 k1_t6
  let c16_i32_233 : BitVec 32 := 16#32
  let v1862 : BitVec 32 := Scalar.muli arg22 c16_i32_233
  let v1865 : Index := Scalar.indexCast v1862
  ![0, 15, v1865.toNat]
def k1_cond1 : BitVec 1 :=
  let c0_i32_41 : BitVec 32 := 0#32
  let c2_i32_42 : BitVec 32 := 2#32
  let v42 : BitVec 32 := Scalar.muli c0_i32_41 c2_i32_42
  let c0_i32_43 : BitVec 32 := 0#32
  let v43 : BitVec 32 := Scalar.addi v42 c0_i32_43
  let c2_i32_108 : BitVec 32 := 2#32
  let v909 : BitVec 32 := Scalar.addi v43 c2_i32_108
  let c2_i32_109 : BitVec 32 := 2#32
  let v910 : BitVec 1 := Scalar.cmpi .slt v909 c2_i32_109
  let v911 : BitVec 32 := Scalar.extui v910
  let c0_i32_110 : BitVec 32 := 0#32
  let v912 : BitVec 1 := Scalar.cmpi .ne v911 c0_i32_110
  v912

def k1_off59 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_41 : BitVec 32 := 0#32
  let c2_i32_42 : BitVec 32 := 2#32
  let v42 : BitVec 32 := Scalar.muli c0_i32_41 c2_i32_42
  let c0_i32_43 : BitVec 32 := 0#32
  let v43 : BitVec 32 := Scalar.addi v42 c0_i32_43
  let c2_i32_211 : BitVec 32 := 2#32
  let v1810 : BitVec 32 := Scalar.addi v43 c2_i32_211
  let c16_i32_212 : BitVec 32 := 16#32
  let v1811 : BitVec 32 := Scalar.muli v1810 c16_i32_212
  let v1812 : BitVec 32 := Scalar.addi v2 v1811
  let c0_i32_216 : BitVec 32 := 0#32
  ![v1812.toNat, 0]
def k1_off60 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_41 : BitVec 32 := 0#32
  let c2_i32_42 : BitVec 32 := 2#32
  let v42 : BitVec 32 := Scalar.muli c0_i32_41 c2_i32_42
  let c0_i32_43 : BitVec 32 := 0#32
  let v43 : BitVec 32 := Scalar.addi v42 c0_i32_43
  let c2_i32_211 : BitVec 32 := 2#32
  let v1810 : BitVec 32 := Scalar.addi v43 c2_i32_211
  let c16_i32_212 : BitVec 32 := 16#32
  let v1811 : BitVec 32 := Scalar.muli v1810 c16_i32_212
  let v1812 : BitVec 32 := Scalar.addi v2 v1811
  let c0_i32_223 : BitVec 32 := 0#32
  ![v1812.toNat, 0]
def k1_off61 (i : grid1.Coords) (c0_i32_43 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_41 : BitVec 32 := 0#32
  let c2_i32_42 : BitVec 32 := 2#32
  let v42 : BitVec 32 := Scalar.muli c0_i32_41 c2_i32_42
  let v43 : BitVec 32 := Scalar.addi v42 c0_i32_43
  let c16_i32_116 : BitVec 32 := 16#32
  let v924 : BitVec 32 := Scalar.muli v43 c16_i32_116
  let v925 : BitVec 32 := Scalar.addi v2 v924
  ![v925.toNat]
@[reducible] def k1_t7_loop : Scf.Loop 32 :=
  let c0_i32_151 : BitVec 32 := 0#32
  let c32_i32_152 : BitVec 32 := 32#32
  let v957 : BitVec 32 := Scalar.addi c0_i32_151 c32_i32_152
  let c1_i32_153 : BitVec 32 := 1#32
  ⟨c0_i32_151, v957, c1_i32_153⟩
def k1_off62 (k1_t7 : Fin k1_t7_loop.trips) : Fin 1 → Nat :=
  let c0_i32_151 : BitVec 32 := 0#32
  let c1_i32_153 : BitVec 32 := 1#32
  let arg22 : BitVec 32 := Scf.iv c0_i32_151 c1_i32_153 k1_t7
  let c16_i32_211 : BitVec 32 := 16#32
  let v1810 : BitVec 32 := Scalar.muli arg22 c16_i32_211
  let v1811 : Index := Scalar.indexCast v1810
  ![v1811.toNat]
def k1_off63 (k1_t7 : Fin k1_t7_loop.trips) : Fin 3 → Nat :=
  let c1_i32_213 : BitVec 32 := 1#32
  let v1814 : Index := Scalar.indexCast c1_i32_213
  let c0_i32_214 : BitVec 32 := 0#32
  let v1815 : Index := Scalar.indexCast c0_i32_214
  let c0_i32_151 : BitVec 32 := 0#32
  let c1_i32_153 : BitVec 32 := 1#32
  let arg22 : BitVec 32 := Scf.iv c0_i32_151 c1_i32_153 k1_t7
  let c16_i32_212 : BitVec 32 := 16#32
  let v1813 : BitVec 32 := Scalar.muli arg22 c16_i32_212
  let v1816 : Index := Scalar.indexCast v1813
  ![1, 0, v1816.toNat]
def k1_off64 (k1_t7 : Fin k1_t7_loop.trips) : Fin 3 → Nat :=
  let c1_i32_216 : BitVec 32 := 1#32
  let v1821 : Index := Scalar.indexCast c1_i32_216
  let c1_i32_217 : BitVec 32 := 1#32
  let v1822 : Index := Scalar.indexCast c1_i32_217
  let c0_i32_151 : BitVec 32 := 0#32
  let c1_i32_153 : BitVec 32 := 1#32
  let arg22 : BitVec 32 := Scf.iv c0_i32_151 c1_i32_153 k1_t7
  let c16_i32_215 : BitVec 32 := 16#32
  let v1820 : BitVec 32 := Scalar.muli arg22 c16_i32_215
  let v1823 : Index := Scalar.indexCast v1820
  ![1, 1, v1823.toNat]
def k1_off65 (k1_t7 : Fin k1_t7_loop.trips) : Fin 3 → Nat :=
  let c1_i32_219 : BitVec 32 := 1#32
  let v1828 : Index := Scalar.indexCast c1_i32_219
  let c2_i32_220 : BitVec 32 := 2#32
  let v1829 : Index := Scalar.indexCast c2_i32_220
  let c0_i32_151 : BitVec 32 := 0#32
  let c1_i32_153 : BitVec 32 := 1#32
  let arg22 : BitVec 32 := Scf.iv c0_i32_151 c1_i32_153 k1_t7
  let c16_i32_218 : BitVec 32 := 16#32
  let v1827 : BitVec 32 := Scalar.muli arg22 c16_i32_218
  let v1830 : Index := Scalar.indexCast v1827
  ![1, 2, v1830.toNat]
def k1_off66 (k1_t7 : Fin k1_t7_loop.trips) : Fin 3 → Nat :=
  let c1_i32_222 : BitVec 32 := 1#32
  let v1835 : Index := Scalar.indexCast c1_i32_222
  let c3_i32_223 : BitVec 32 := 3#32
  let v1836 : Index := Scalar.indexCast c3_i32_223
  let c0_i32_151 : BitVec 32 := 0#32
  let c1_i32_153 : BitVec 32 := 1#32
  let arg22 : BitVec 32 := Scf.iv c0_i32_151 c1_i32_153 k1_t7
  let c16_i32_221 : BitVec 32 := 16#32
  let v1834 : BitVec 32 := Scalar.muli arg22 c16_i32_221
  let v1837 : Index := Scalar.indexCast v1834
  ![1, 3, v1837.toNat]
def k1_off67 (k1_t7 : Fin k1_t7_loop.trips) : Fin 3 → Nat :=
  let c1_i32_225 : BitVec 32 := 1#32
  let v1842 : Index := Scalar.indexCast c1_i32_225
  let c4_i32_226 : BitVec 32 := 4#32
  let v1843 : Index := Scalar.indexCast c4_i32_226
  let c0_i32_151 : BitVec 32 := 0#32
  let c1_i32_153 : BitVec 32 := 1#32
  let arg22 : BitVec 32 := Scf.iv c0_i32_151 c1_i32_153 k1_t7
  let c16_i32_224 : BitVec 32 := 16#32
  let v1841 : BitVec 32 := Scalar.muli arg22 c16_i32_224
  let v1844 : Index := Scalar.indexCast v1841
  ![1, 4, v1844.toNat]
def k1_off68 (k1_t7 : Fin k1_t7_loop.trips) : Fin 3 → Nat :=
  let c1_i32_228 : BitVec 32 := 1#32
  let v1849 : Index := Scalar.indexCast c1_i32_228
  let c5_i32_229 : BitVec 32 := 5#32
  let v1850 : Index := Scalar.indexCast c5_i32_229
  let c0_i32_151 : BitVec 32 := 0#32
  let c1_i32_153 : BitVec 32 := 1#32
  let arg22 : BitVec 32 := Scf.iv c0_i32_151 c1_i32_153 k1_t7
  let c16_i32_227 : BitVec 32 := 16#32
  let v1848 : BitVec 32 := Scalar.muli arg22 c16_i32_227
  let v1851 : Index := Scalar.indexCast v1848
  ![1, 5, v1851.toNat]
def k1_off69 (k1_t7 : Fin k1_t7_loop.trips) : Fin 3 → Nat :=
  let c1_i32_231 : BitVec 32 := 1#32
  let v1856 : Index := Scalar.indexCast c1_i32_231
  let c6_i32_232 : BitVec 32 := 6#32
  let v1857 : Index := Scalar.indexCast c6_i32_232
  let c0_i32_151 : BitVec 32 := 0#32
  let c1_i32_153 : BitVec 32 := 1#32
  let arg22 : BitVec 32 := Scf.iv c0_i32_151 c1_i32_153 k1_t7
  let c16_i32_230 : BitVec 32 := 16#32
  let v1855 : BitVec 32 := Scalar.muli arg22 c16_i32_230
  let v1858 : Index := Scalar.indexCast v1855
  ![1, 6, v1858.toNat]
def k1_off70 (k1_t7 : Fin k1_t7_loop.trips) : Fin 3 → Nat :=
  let c1_i32_234 : BitVec 32 := 1#32
  let v1863 : Index := Scalar.indexCast c1_i32_234
  let c7_i32_235 : BitVec 32 := 7#32
  let v1864 : Index := Scalar.indexCast c7_i32_235
  let c0_i32_151 : BitVec 32 := 0#32
  let c1_i32_153 : BitVec 32 := 1#32
  let arg22 : BitVec 32 := Scf.iv c0_i32_151 c1_i32_153 k1_t7
  let c16_i32_233 : BitVec 32 := 16#32
  let v1862 : BitVec 32 := Scalar.muli arg22 c16_i32_233
  let v1865 : Index := Scalar.indexCast v1862
  ![1, 7, v1865.toNat]
@[reducible] def k1_t8_loop : Scf.Loop 32 :=
  let c0_i32_155 : BitVec 32 := 0#32
  let c64_i32_156 : BitVec 32 := 64#32
  let v959 : BitVec 32 := Scalar.addi c0_i32_155 c64_i32_156
  let c1_i32_157 : BitVec 32 := 1#32
  ⟨c0_i32_155, v959, c1_i32_157⟩
def k1_off71 (k1_t8 : Fin k1_t8_loop.trips) : Fin 1 → Nat :=
  let c0_i32_155 : BitVec 32 := 0#32
  let c1_i32_157 : BitVec 32 := 1#32
  let arg22 : BitVec 32 := Scf.iv c0_i32_155 c1_i32_157 k1_t8
  let c16_i32_211 : BitVec 32 := 16#32
  let v1810 : BitVec 32 := Scalar.muli arg22 c16_i32_211
  let v1811 : Index := Scalar.indexCast v1810
  ![v1811.toNat]
def k1_off72 (k1_t8 : Fin k1_t8_loop.trips) : Fin 3 → Nat :=
  let c1_i32_213 : BitVec 32 := 1#32
  let v1814 : Index := Scalar.indexCast c1_i32_213
  let c0_i32_214 : BitVec 32 := 0#32
  let v1815 : Index := Scalar.indexCast c0_i32_214
  let c0_i32_155 : BitVec 32 := 0#32
  let c1_i32_157 : BitVec 32 := 1#32
  let arg22 : BitVec 32 := Scf.iv c0_i32_155 c1_i32_157 k1_t8
  let c16_i32_212 : BitVec 32 := 16#32
  let v1813 : BitVec 32 := Scalar.muli arg22 c16_i32_212
  let v1816 : Index := Scalar.indexCast v1813
  ![1, 0, v1816.toNat]
def k1_off73 (k1_t8 : Fin k1_t8_loop.trips) : Fin 3 → Nat :=
  let c1_i32_216 : BitVec 32 := 1#32
  let v1821 : Index := Scalar.indexCast c1_i32_216
  let c1_i32_217 : BitVec 32 := 1#32
  let v1822 : Index := Scalar.indexCast c1_i32_217
  let c0_i32_155 : BitVec 32 := 0#32
  let c1_i32_157 : BitVec 32 := 1#32
  let arg22 : BitVec 32 := Scf.iv c0_i32_155 c1_i32_157 k1_t8
  let c16_i32_215 : BitVec 32 := 16#32
  let v1820 : BitVec 32 := Scalar.muli arg22 c16_i32_215
  let v1823 : Index := Scalar.indexCast v1820
  ![1, 1, v1823.toNat]
def k1_off74 (k1_t8 : Fin k1_t8_loop.trips) : Fin 3 → Nat :=
  let c1_i32_219 : BitVec 32 := 1#32
  let v1828 : Index := Scalar.indexCast c1_i32_219
  let c2_i32_220 : BitVec 32 := 2#32
  let v1829 : Index := Scalar.indexCast c2_i32_220
  let c0_i32_155 : BitVec 32 := 0#32
  let c1_i32_157 : BitVec 32 := 1#32
  let arg22 : BitVec 32 := Scf.iv c0_i32_155 c1_i32_157 k1_t8
  let c16_i32_218 : BitVec 32 := 16#32
  let v1827 : BitVec 32 := Scalar.muli arg22 c16_i32_218
  let v1830 : Index := Scalar.indexCast v1827
  ![1, 2, v1830.toNat]
def k1_off75 (k1_t8 : Fin k1_t8_loop.trips) : Fin 3 → Nat :=
  let c1_i32_222 : BitVec 32 := 1#32
  let v1835 : Index := Scalar.indexCast c1_i32_222
  let c3_i32_223 : BitVec 32 := 3#32
  let v1836 : Index := Scalar.indexCast c3_i32_223
  let c0_i32_155 : BitVec 32 := 0#32
  let c1_i32_157 : BitVec 32 := 1#32
  let arg22 : BitVec 32 := Scf.iv c0_i32_155 c1_i32_157 k1_t8
  let c16_i32_221 : BitVec 32 := 16#32
  let v1834 : BitVec 32 := Scalar.muli arg22 c16_i32_221
  let v1837 : Index := Scalar.indexCast v1834
  ![1, 3, v1837.toNat]
def k1_off76 (k1_t8 : Fin k1_t8_loop.trips) : Fin 3 → Nat :=
  let c1_i32_225 : BitVec 32 := 1#32
  let v1842 : Index := Scalar.indexCast c1_i32_225
  let c4_i32_226 : BitVec 32 := 4#32
  let v1843 : Index := Scalar.indexCast c4_i32_226
  let c0_i32_155 : BitVec 32 := 0#32
  let c1_i32_157 : BitVec 32 := 1#32
  let arg22 : BitVec 32 := Scf.iv c0_i32_155 c1_i32_157 k1_t8
  let c16_i32_224 : BitVec 32 := 16#32
  let v1841 : BitVec 32 := Scalar.muli arg22 c16_i32_224
  let v1844 : Index := Scalar.indexCast v1841
  ![1, 4, v1844.toNat]
def k1_off77 (k1_t8 : Fin k1_t8_loop.trips) : Fin 3 → Nat :=
  let c1_i32_228 : BitVec 32 := 1#32
  let v1849 : Index := Scalar.indexCast c1_i32_228
  let c5_i32_229 : BitVec 32 := 5#32
  let v1850 : Index := Scalar.indexCast c5_i32_229
  let c0_i32_155 : BitVec 32 := 0#32
  let c1_i32_157 : BitVec 32 := 1#32
  let arg22 : BitVec 32 := Scf.iv c0_i32_155 c1_i32_157 k1_t8
  let c16_i32_227 : BitVec 32 := 16#32
  let v1848 : BitVec 32 := Scalar.muli arg22 c16_i32_227
  let v1851 : Index := Scalar.indexCast v1848
  ![1, 5, v1851.toNat]
def k1_off78 (k1_t8 : Fin k1_t8_loop.trips) : Fin 3 → Nat :=
  let c1_i32_231 : BitVec 32 := 1#32
  let v1856 : Index := Scalar.indexCast c1_i32_231
  let c6_i32_232 : BitVec 32 := 6#32
  let v1857 : Index := Scalar.indexCast c6_i32_232
  let c0_i32_155 : BitVec 32 := 0#32
  let c1_i32_157 : BitVec 32 := 1#32
  let arg22 : BitVec 32 := Scf.iv c0_i32_155 c1_i32_157 k1_t8
  let c16_i32_230 : BitVec 32 := 16#32
  let v1855 : BitVec 32 := Scalar.muli arg22 c16_i32_230
  let v1858 : Index := Scalar.indexCast v1855
  ![1, 6, v1858.toNat]
def k1_off79 (k1_t8 : Fin k1_t8_loop.trips) : Fin 3 → Nat :=
  let c1_i32_234 : BitVec 32 := 1#32
  let v1863 : Index := Scalar.indexCast c1_i32_234
  let c7_i32_235 : BitVec 32 := 7#32
  let v1864 : Index := Scalar.indexCast c7_i32_235
  let c0_i32_155 : BitVec 32 := 0#32
  let c1_i32_157 : BitVec 32 := 1#32
  let arg22 : BitVec 32 := Scf.iv c0_i32_155 c1_i32_157 k1_t8
  let c16_i32_233 : BitVec 32 := 16#32
  let v1862 : BitVec 32 := Scalar.muli arg22 c16_i32_233
  let v1865 : Index := Scalar.indexCast v1862
  ![1, 7, v1865.toNat]
@[reducible] def k1_t9_loop : Scf.Loop 32 :=
  let c0_i32_159 : BitVec 32 := 0#32
  let c64_i32_160 : BitVec 32 := 64#32
  let v961 : BitVec 32 := Scalar.addi c0_i32_159 c64_i32_160
  let c1_i32_161 : BitVec 32 := 1#32
  ⟨c0_i32_159, v961, c1_i32_161⟩
def k1_off80 (k1_t9 : Fin k1_t9_loop.trips) : Fin 1 → Nat :=
  let c0_i32_159 : BitVec 32 := 0#32
  let c1_i32_161 : BitVec 32 := 1#32
  let arg22 : BitVec 32 := Scf.iv c0_i32_159 c1_i32_161 k1_t9
  let c16_i32_211 : BitVec 32 := 16#32
  let v1810 : BitVec 32 := Scalar.muli arg22 c16_i32_211
  let v1811 : Index := Scalar.indexCast v1810
  ![v1811.toNat]
def k1_off81 (k1_t9 : Fin k1_t9_loop.trips) : Fin 3 → Nat :=
  let c1_i32_213 : BitVec 32 := 1#32
  let v1814 : Index := Scalar.indexCast c1_i32_213
  let c0_i32_214 : BitVec 32 := 0#32
  let v1815 : Index := Scalar.indexCast c0_i32_214
  let c0_i32_159 : BitVec 32 := 0#32
  let c1_i32_161 : BitVec 32 := 1#32
  let arg22 : BitVec 32 := Scf.iv c0_i32_159 c1_i32_161 k1_t9
  let c16_i32_212 : BitVec 32 := 16#32
  let v1813 : BitVec 32 := Scalar.muli arg22 c16_i32_212
  let v1816 : Index := Scalar.indexCast v1813
  ![1, 0, v1816.toNat]
def k1_off82 (k1_t9 : Fin k1_t9_loop.trips) : Fin 3 → Nat :=
  let c1_i32_216 : BitVec 32 := 1#32
  let v1821 : Index := Scalar.indexCast c1_i32_216
  let c1_i32_217 : BitVec 32 := 1#32
  let v1822 : Index := Scalar.indexCast c1_i32_217
  let c0_i32_159 : BitVec 32 := 0#32
  let c1_i32_161 : BitVec 32 := 1#32
  let arg22 : BitVec 32 := Scf.iv c0_i32_159 c1_i32_161 k1_t9
  let c16_i32_215 : BitVec 32 := 16#32
  let v1820 : BitVec 32 := Scalar.muli arg22 c16_i32_215
  let v1823 : Index := Scalar.indexCast v1820
  ![1, 1, v1823.toNat]
def k1_off83 (k1_t9 : Fin k1_t9_loop.trips) : Fin 3 → Nat :=
  let c1_i32_219 : BitVec 32 := 1#32
  let v1828 : Index := Scalar.indexCast c1_i32_219
  let c2_i32_220 : BitVec 32 := 2#32
  let v1829 : Index := Scalar.indexCast c2_i32_220
  let c0_i32_159 : BitVec 32 := 0#32
  let c1_i32_161 : BitVec 32 := 1#32
  let arg22 : BitVec 32 := Scf.iv c0_i32_159 c1_i32_161 k1_t9
  let c16_i32_218 : BitVec 32 := 16#32
  let v1827 : BitVec 32 := Scalar.muli arg22 c16_i32_218
  let v1830 : Index := Scalar.indexCast v1827
  ![1, 2, v1830.toNat]
def k1_off84 (k1_t9 : Fin k1_t9_loop.trips) : Fin 3 → Nat :=
  let c1_i32_222 : BitVec 32 := 1#32
  let v1835 : Index := Scalar.indexCast c1_i32_222
  let c3_i32_223 : BitVec 32 := 3#32
  let v1836 : Index := Scalar.indexCast c3_i32_223
  let c0_i32_159 : BitVec 32 := 0#32
  let c1_i32_161 : BitVec 32 := 1#32
  let arg22 : BitVec 32 := Scf.iv c0_i32_159 c1_i32_161 k1_t9
  let c16_i32_221 : BitVec 32 := 16#32
  let v1834 : BitVec 32 := Scalar.muli arg22 c16_i32_221
  let v1837 : Index := Scalar.indexCast v1834
  ![1, 3, v1837.toNat]
def k1_off85 (k1_t9 : Fin k1_t9_loop.trips) : Fin 3 → Nat :=
  let c1_i32_225 : BitVec 32 := 1#32
  let v1842 : Index := Scalar.indexCast c1_i32_225
  let c4_i32_226 : BitVec 32 := 4#32
  let v1843 : Index := Scalar.indexCast c4_i32_226
  let c0_i32_159 : BitVec 32 := 0#32
  let c1_i32_161 : BitVec 32 := 1#32
  let arg22 : BitVec 32 := Scf.iv c0_i32_159 c1_i32_161 k1_t9
  let c16_i32_224 : BitVec 32 := 16#32
  let v1841 : BitVec 32 := Scalar.muli arg22 c16_i32_224
  let v1844 : Index := Scalar.indexCast v1841
  ![1, 4, v1844.toNat]
def k1_off86 (k1_t9 : Fin k1_t9_loop.trips) : Fin 3 → Nat :=
  let c1_i32_228 : BitVec 32 := 1#32
  let v1849 : Index := Scalar.indexCast c1_i32_228
  let c5_i32_229 : BitVec 32 := 5#32
  let v1850 : Index := Scalar.indexCast c5_i32_229
  let c0_i32_159 : BitVec 32 := 0#32
  let c1_i32_161 : BitVec 32 := 1#32
  let arg22 : BitVec 32 := Scf.iv c0_i32_159 c1_i32_161 k1_t9
  let c16_i32_227 : BitVec 32 := 16#32
  let v1848 : BitVec 32 := Scalar.muli arg22 c16_i32_227
  let v1851 : Index := Scalar.indexCast v1848
  ![1, 5, v1851.toNat]
def k1_off87 (k1_t9 : Fin k1_t9_loop.trips) : Fin 3 → Nat :=
  let c1_i32_231 : BitVec 32 := 1#32
  let v1856 : Index := Scalar.indexCast c1_i32_231
  let c6_i32_232 : BitVec 32 := 6#32
  let v1857 : Index := Scalar.indexCast c6_i32_232
  let c0_i32_159 : BitVec 32 := 0#32
  let c1_i32_161 : BitVec 32 := 1#32
  let arg22 : BitVec 32 := Scf.iv c0_i32_159 c1_i32_161 k1_t9
  let c16_i32_230 : BitVec 32 := 16#32
  let v1855 : BitVec 32 := Scalar.muli arg22 c16_i32_230
  let v1858 : Index := Scalar.indexCast v1855
  ![1, 6, v1858.toNat]
def k1_off88 (k1_t9 : Fin k1_t9_loop.trips) : Fin 3 → Nat :=
  let c1_i32_234 : BitVec 32 := 1#32
  let v1863 : Index := Scalar.indexCast c1_i32_234
  let c7_i32_235 : BitVec 32 := 7#32
  let v1864 : Index := Scalar.indexCast c7_i32_235
  let c0_i32_159 : BitVec 32 := 0#32
  let c1_i32_161 : BitVec 32 := 1#32
  let arg22 : BitVec 32 := Scf.iv c0_i32_159 c1_i32_161 k1_t9
  let c16_i32_233 : BitVec 32 := 16#32
  let v1862 : BitVec 32 := Scalar.muli arg22 c16_i32_233
  let v1865 : Index := Scalar.indexCast v1862
  ![1, 7, v1865.toNat]
@[reducible] def k1_t10_loop : Scf.Loop 32 :=
  let c0_i32_179 : BitVec 32 := 0#32
  let c32_i32_180 : BitVec 32 := 32#32
  let v1379 : BitVec 32 := Scalar.addi c0_i32_179 c32_i32_180
  let c1_i32_181 : BitVec 32 := 1#32
  ⟨c0_i32_179, v1379, c1_i32_181⟩
def k1_off89 (k1_t10 : Fin k1_t10_loop.trips) : Fin 1 → Nat :=
  let c0_i32_179 : BitVec 32 := 0#32
  let c1_i32_181 : BitVec 32 := 1#32
  let arg22 : BitVec 32 := Scf.iv c0_i32_179 c1_i32_181 k1_t10
  let c16_i32_211 : BitVec 32 := 16#32
  let v1810 : BitVec 32 := Scalar.muli arg22 c16_i32_211
  let v1811 : Index := Scalar.indexCast v1810
  ![v1811.toNat]
def k1_off90 (k1_t10 : Fin k1_t10_loop.trips) : Fin 3 → Nat :=
  let c1_i32_213 : BitVec 32 := 1#32
  let v1814 : Index := Scalar.indexCast c1_i32_213
  let c8_i32_214 : BitVec 32 := 8#32
  let v1815 : Index := Scalar.indexCast c8_i32_214
  let c0_i32_179 : BitVec 32 := 0#32
  let c1_i32_181 : BitVec 32 := 1#32
  let arg22 : BitVec 32 := Scf.iv c0_i32_179 c1_i32_181 k1_t10
  let c16_i32_212 : BitVec 32 := 16#32
  let v1813 : BitVec 32 := Scalar.muli arg22 c16_i32_212
  let v1816 : Index := Scalar.indexCast v1813
  ![1, 8, v1816.toNat]
def k1_off91 (k1_t10 : Fin k1_t10_loop.trips) : Fin 3 → Nat :=
  let c1_i32_216 : BitVec 32 := 1#32
  let v1821 : Index := Scalar.indexCast c1_i32_216
  let c9_i32_217 : BitVec 32 := 9#32
  let v1822 : Index := Scalar.indexCast c9_i32_217
  let c0_i32_179 : BitVec 32 := 0#32
  let c1_i32_181 : BitVec 32 := 1#32
  let arg22 : BitVec 32 := Scf.iv c0_i32_179 c1_i32_181 k1_t10
  let c16_i32_215 : BitVec 32 := 16#32
  let v1820 : BitVec 32 := Scalar.muli arg22 c16_i32_215
  let v1823 : Index := Scalar.indexCast v1820
  ![1, 9, v1823.toNat]
def k1_off92 (k1_t10 : Fin k1_t10_loop.trips) : Fin 3 → Nat :=
  let c1_i32_219 : BitVec 32 := 1#32
  let v1828 : Index := Scalar.indexCast c1_i32_219
  let c10_i32_220 : BitVec 32 := 10#32
  let v1829 : Index := Scalar.indexCast c10_i32_220
  let c0_i32_179 : BitVec 32 := 0#32
  let c1_i32_181 : BitVec 32 := 1#32
  let arg22 : BitVec 32 := Scf.iv c0_i32_179 c1_i32_181 k1_t10
  let c16_i32_218 : BitVec 32 := 16#32
  let v1827 : BitVec 32 := Scalar.muli arg22 c16_i32_218
  let v1830 : Index := Scalar.indexCast v1827
  ![1, 10, v1830.toNat]
def k1_off93 (k1_t10 : Fin k1_t10_loop.trips) : Fin 3 → Nat :=
  let c1_i32_222 : BitVec 32 := 1#32
  let v1835 : Index := Scalar.indexCast c1_i32_222
  let c11_i32_223 : BitVec 32 := 11#32
  let v1836 : Index := Scalar.indexCast c11_i32_223
  let c0_i32_179 : BitVec 32 := 0#32
  let c1_i32_181 : BitVec 32 := 1#32
  let arg22 : BitVec 32 := Scf.iv c0_i32_179 c1_i32_181 k1_t10
  let c16_i32_221 : BitVec 32 := 16#32
  let v1834 : BitVec 32 := Scalar.muli arg22 c16_i32_221
  let v1837 : Index := Scalar.indexCast v1834
  ![1, 11, v1837.toNat]
def k1_off94 (k1_t10 : Fin k1_t10_loop.trips) : Fin 3 → Nat :=
  let c1_i32_225 : BitVec 32 := 1#32
  let v1842 : Index := Scalar.indexCast c1_i32_225
  let c12_i32_226 : BitVec 32 := 12#32
  let v1843 : Index := Scalar.indexCast c12_i32_226
  let c0_i32_179 : BitVec 32 := 0#32
  let c1_i32_181 : BitVec 32 := 1#32
  let arg22 : BitVec 32 := Scf.iv c0_i32_179 c1_i32_181 k1_t10
  let c16_i32_224 : BitVec 32 := 16#32
  let v1841 : BitVec 32 := Scalar.muli arg22 c16_i32_224
  let v1844 : Index := Scalar.indexCast v1841
  ![1, 12, v1844.toNat]
def k1_off95 (k1_t10 : Fin k1_t10_loop.trips) : Fin 3 → Nat :=
  let c1_i32_228 : BitVec 32 := 1#32
  let v1849 : Index := Scalar.indexCast c1_i32_228
  let c13_i32_229 : BitVec 32 := 13#32
  let v1850 : Index := Scalar.indexCast c13_i32_229
  let c0_i32_179 : BitVec 32 := 0#32
  let c1_i32_181 : BitVec 32 := 1#32
  let arg22 : BitVec 32 := Scf.iv c0_i32_179 c1_i32_181 k1_t10
  let c16_i32_227 : BitVec 32 := 16#32
  let v1848 : BitVec 32 := Scalar.muli arg22 c16_i32_227
  let v1851 : Index := Scalar.indexCast v1848
  ![1, 13, v1851.toNat]
def k1_off96 (k1_t10 : Fin k1_t10_loop.trips) : Fin 3 → Nat :=
  let c1_i32_231 : BitVec 32 := 1#32
  let v1856 : Index := Scalar.indexCast c1_i32_231
  let c14_i32_232 : BitVec 32 := 14#32
  let v1857 : Index := Scalar.indexCast c14_i32_232
  let c0_i32_179 : BitVec 32 := 0#32
  let c1_i32_181 : BitVec 32 := 1#32
  let arg22 : BitVec 32 := Scf.iv c0_i32_179 c1_i32_181 k1_t10
  let c16_i32_230 : BitVec 32 := 16#32
  let v1855 : BitVec 32 := Scalar.muli arg22 c16_i32_230
  let v1858 : Index := Scalar.indexCast v1855
  ![1, 14, v1858.toNat]
def k1_off97 (k1_t10 : Fin k1_t10_loop.trips) : Fin 3 → Nat :=
  let c1_i32_234 : BitVec 32 := 1#32
  let v1863 : Index := Scalar.indexCast c1_i32_234
  let c15_i32_235 : BitVec 32 := 15#32
  let v1864 : Index := Scalar.indexCast c15_i32_235
  let c0_i32_179 : BitVec 32 := 0#32
  let c1_i32_181 : BitVec 32 := 1#32
  let arg22 : BitVec 32 := Scf.iv c0_i32_179 c1_i32_181 k1_t10
  let c16_i32_233 : BitVec 32 := 16#32
  let v1862 : BitVec 32 := Scalar.muli arg22 c16_i32_233
  let v1865 : Index := Scalar.indexCast v1862
  ![1, 15, v1865.toNat]
@[reducible] def k1_t11_loop : Scf.Loop 32 :=
  let c0_i32_183 : BitVec 32 := 0#32
  let c64_i32_184 : BitVec 32 := 64#32
  let v1381 : BitVec 32 := Scalar.addi c0_i32_183 c64_i32_184
  let c1_i32_185 : BitVec 32 := 1#32
  ⟨c0_i32_183, v1381, c1_i32_185⟩
def k1_off98 (k1_t11 : Fin k1_t11_loop.trips) : Fin 1 → Nat :=
  let c0_i32_183 : BitVec 32 := 0#32
  let c1_i32_185 : BitVec 32 := 1#32
  let arg22 : BitVec 32 := Scf.iv c0_i32_183 c1_i32_185 k1_t11
  let c16_i32_211 : BitVec 32 := 16#32
  let v1810 : BitVec 32 := Scalar.muli arg22 c16_i32_211
  let v1811 : Index := Scalar.indexCast v1810
  ![v1811.toNat]
def k1_off99 (k1_t11 : Fin k1_t11_loop.trips) : Fin 3 → Nat :=
  let c1_i32_213 : BitVec 32 := 1#32
  let v1814 : Index := Scalar.indexCast c1_i32_213
  let c8_i32_214 : BitVec 32 := 8#32
  let v1815 : Index := Scalar.indexCast c8_i32_214
  let c0_i32_183 : BitVec 32 := 0#32
  let c1_i32_185 : BitVec 32 := 1#32
  let arg22 : BitVec 32 := Scf.iv c0_i32_183 c1_i32_185 k1_t11
  let c16_i32_212 : BitVec 32 := 16#32
  let v1813 : BitVec 32 := Scalar.muli arg22 c16_i32_212
  let v1816 : Index := Scalar.indexCast v1813
  ![1, 8, v1816.toNat]
def k1_off100 (k1_t11 : Fin k1_t11_loop.trips) : Fin 3 → Nat :=
  let c1_i32_216 : BitVec 32 := 1#32
  let v1821 : Index := Scalar.indexCast c1_i32_216
  let c9_i32_217 : BitVec 32 := 9#32
  let v1822 : Index := Scalar.indexCast c9_i32_217
  let c0_i32_183 : BitVec 32 := 0#32
  let c1_i32_185 : BitVec 32 := 1#32
  let arg22 : BitVec 32 := Scf.iv c0_i32_183 c1_i32_185 k1_t11
  let c16_i32_215 : BitVec 32 := 16#32
  let v1820 : BitVec 32 := Scalar.muli arg22 c16_i32_215
  let v1823 : Index := Scalar.indexCast v1820
  ![1, 9, v1823.toNat]
def k1_off101 (k1_t11 : Fin k1_t11_loop.trips) : Fin 3 → Nat :=
  let c1_i32_219 : BitVec 32 := 1#32
  let v1828 : Index := Scalar.indexCast c1_i32_219
  let c10_i32_220 : BitVec 32 := 10#32
  let v1829 : Index := Scalar.indexCast c10_i32_220
  let c0_i32_183 : BitVec 32 := 0#32
  let c1_i32_185 : BitVec 32 := 1#32
  let arg22 : BitVec 32 := Scf.iv c0_i32_183 c1_i32_185 k1_t11
  let c16_i32_218 : BitVec 32 := 16#32
  let v1827 : BitVec 32 := Scalar.muli arg22 c16_i32_218
  let v1830 : Index := Scalar.indexCast v1827
  ![1, 10, v1830.toNat]
def k1_off102 (k1_t11 : Fin k1_t11_loop.trips) : Fin 3 → Nat :=
  let c1_i32_222 : BitVec 32 := 1#32
  let v1835 : Index := Scalar.indexCast c1_i32_222
  let c11_i32_223 : BitVec 32 := 11#32
  let v1836 : Index := Scalar.indexCast c11_i32_223
  let c0_i32_183 : BitVec 32 := 0#32
  let c1_i32_185 : BitVec 32 := 1#32
  let arg22 : BitVec 32 := Scf.iv c0_i32_183 c1_i32_185 k1_t11
  let c16_i32_221 : BitVec 32 := 16#32
  let v1834 : BitVec 32 := Scalar.muli arg22 c16_i32_221
  let v1837 : Index := Scalar.indexCast v1834
  ![1, 11, v1837.toNat]
def k1_off103 (k1_t11 : Fin k1_t11_loop.trips) : Fin 3 → Nat :=
  let c1_i32_225 : BitVec 32 := 1#32
  let v1842 : Index := Scalar.indexCast c1_i32_225
  let c12_i32_226 : BitVec 32 := 12#32
  let v1843 : Index := Scalar.indexCast c12_i32_226
  let c0_i32_183 : BitVec 32 := 0#32
  let c1_i32_185 : BitVec 32 := 1#32
  let arg22 : BitVec 32 := Scf.iv c0_i32_183 c1_i32_185 k1_t11
  let c16_i32_224 : BitVec 32 := 16#32
  let v1841 : BitVec 32 := Scalar.muli arg22 c16_i32_224
  let v1844 : Index := Scalar.indexCast v1841
  ![1, 12, v1844.toNat]
def k1_off104 (k1_t11 : Fin k1_t11_loop.trips) : Fin 3 → Nat :=
  let c1_i32_228 : BitVec 32 := 1#32
  let v1849 : Index := Scalar.indexCast c1_i32_228
  let c13_i32_229 : BitVec 32 := 13#32
  let v1850 : Index := Scalar.indexCast c13_i32_229
  let c0_i32_183 : BitVec 32 := 0#32
  let c1_i32_185 : BitVec 32 := 1#32
  let arg22 : BitVec 32 := Scf.iv c0_i32_183 c1_i32_185 k1_t11
  let c16_i32_227 : BitVec 32 := 16#32
  let v1848 : BitVec 32 := Scalar.muli arg22 c16_i32_227
  let v1851 : Index := Scalar.indexCast v1848
  ![1, 13, v1851.toNat]
def k1_off105 (k1_t11 : Fin k1_t11_loop.trips) : Fin 3 → Nat :=
  let c1_i32_231 : BitVec 32 := 1#32
  let v1856 : Index := Scalar.indexCast c1_i32_231
  let c14_i32_232 : BitVec 32 := 14#32
  let v1857 : Index := Scalar.indexCast c14_i32_232
  let c0_i32_183 : BitVec 32 := 0#32
  let c1_i32_185 : BitVec 32 := 1#32
  let arg22 : BitVec 32 := Scf.iv c0_i32_183 c1_i32_185 k1_t11
  let c16_i32_230 : BitVec 32 := 16#32
  let v1855 : BitVec 32 := Scalar.muli arg22 c16_i32_230
  let v1858 : Index := Scalar.indexCast v1855
  ![1, 14, v1858.toNat]
def k1_off106 (k1_t11 : Fin k1_t11_loop.trips) : Fin 3 → Nat :=
  let c1_i32_234 : BitVec 32 := 1#32
  let v1863 : Index := Scalar.indexCast c1_i32_234
  let c15_i32_235 : BitVec 32 := 15#32
  let v1864 : Index := Scalar.indexCast c15_i32_235
  let c0_i32_183 : BitVec 32 := 0#32
  let c1_i32_185 : BitVec 32 := 1#32
  let arg22 : BitVec 32 := Scf.iv c0_i32_183 c1_i32_185 k1_t11
  let c16_i32_233 : BitVec 32 := 16#32
  let v1862 : BitVec 32 := Scalar.muli arg22 c16_i32_233
  let v1865 : Index := Scalar.indexCast v1862
  ![1, 15, v1865.toNat]
@[reducible] def k1_t12_loop : Scf.Loop 32 :=
  let c0_i32_187 : BitVec 32 := 0#32
  let c64_i32_188 : BitVec 32 := 64#32
  let v1383 : BitVec 32 := Scalar.addi c0_i32_187 c64_i32_188
  let c1_i32_189 : BitVec 32 := 1#32
  ⟨c0_i32_187, v1383, c1_i32_189⟩
def k1_off107 (k1_t12 : Fin k1_t12_loop.trips) : Fin 1 → Nat :=
  let c0_i32_187 : BitVec 32 := 0#32
  let c1_i32_189 : BitVec 32 := 1#32
  let arg22 : BitVec 32 := Scf.iv c0_i32_187 c1_i32_189 k1_t12
  let c16_i32_211 : BitVec 32 := 16#32
  let v1810 : BitVec 32 := Scalar.muli arg22 c16_i32_211
  let v1811 : Index := Scalar.indexCast v1810
  ![v1811.toNat]
def k1_off108 (k1_t12 : Fin k1_t12_loop.trips) : Fin 3 → Nat :=
  let c1_i32_213 : BitVec 32 := 1#32
  let v1814 : Index := Scalar.indexCast c1_i32_213
  let c8_i32_214 : BitVec 32 := 8#32
  let v1815 : Index := Scalar.indexCast c8_i32_214
  let c0_i32_187 : BitVec 32 := 0#32
  let c1_i32_189 : BitVec 32 := 1#32
  let arg22 : BitVec 32 := Scf.iv c0_i32_187 c1_i32_189 k1_t12
  let c16_i32_212 : BitVec 32 := 16#32
  let v1813 : BitVec 32 := Scalar.muli arg22 c16_i32_212
  let v1816 : Index := Scalar.indexCast v1813
  ![1, 8, v1816.toNat]
def k1_off109 (k1_t12 : Fin k1_t12_loop.trips) : Fin 3 → Nat :=
  let c1_i32_216 : BitVec 32 := 1#32
  let v1821 : Index := Scalar.indexCast c1_i32_216
  let c9_i32_217 : BitVec 32 := 9#32
  let v1822 : Index := Scalar.indexCast c9_i32_217
  let c0_i32_187 : BitVec 32 := 0#32
  let c1_i32_189 : BitVec 32 := 1#32
  let arg22 : BitVec 32 := Scf.iv c0_i32_187 c1_i32_189 k1_t12
  let c16_i32_215 : BitVec 32 := 16#32
  let v1820 : BitVec 32 := Scalar.muli arg22 c16_i32_215
  let v1823 : Index := Scalar.indexCast v1820
  ![1, 9, v1823.toNat]
def k1_off110 (k1_t12 : Fin k1_t12_loop.trips) : Fin 3 → Nat :=
  let c1_i32_219 : BitVec 32 := 1#32
  let v1828 : Index := Scalar.indexCast c1_i32_219
  let c10_i32_220 : BitVec 32 := 10#32
  let v1829 : Index := Scalar.indexCast c10_i32_220
  let c0_i32_187 : BitVec 32 := 0#32
  let c1_i32_189 : BitVec 32 := 1#32
  let arg22 : BitVec 32 := Scf.iv c0_i32_187 c1_i32_189 k1_t12
  let c16_i32_218 : BitVec 32 := 16#32
  let v1827 : BitVec 32 := Scalar.muli arg22 c16_i32_218
  let v1830 : Index := Scalar.indexCast v1827
  ![1, 10, v1830.toNat]
def k1_off111 (k1_t12 : Fin k1_t12_loop.trips) : Fin 3 → Nat :=
  let c1_i32_222 : BitVec 32 := 1#32
  let v1835 : Index := Scalar.indexCast c1_i32_222
  let c11_i32_223 : BitVec 32 := 11#32
  let v1836 : Index := Scalar.indexCast c11_i32_223
  let c0_i32_187 : BitVec 32 := 0#32
  let c1_i32_189 : BitVec 32 := 1#32
  let arg22 : BitVec 32 := Scf.iv c0_i32_187 c1_i32_189 k1_t12
  let c16_i32_221 : BitVec 32 := 16#32
  let v1834 : BitVec 32 := Scalar.muli arg22 c16_i32_221
  let v1837 : Index := Scalar.indexCast v1834
  ![1, 11, v1837.toNat]
def k1_off112 (k1_t12 : Fin k1_t12_loop.trips) : Fin 3 → Nat :=
  let c1_i32_225 : BitVec 32 := 1#32
  let v1842 : Index := Scalar.indexCast c1_i32_225
  let c12_i32_226 : BitVec 32 := 12#32
  let v1843 : Index := Scalar.indexCast c12_i32_226
  let c0_i32_187 : BitVec 32 := 0#32
  let c1_i32_189 : BitVec 32 := 1#32
  let arg22 : BitVec 32 := Scf.iv c0_i32_187 c1_i32_189 k1_t12
  let c16_i32_224 : BitVec 32 := 16#32
  let v1841 : BitVec 32 := Scalar.muli arg22 c16_i32_224
  let v1844 : Index := Scalar.indexCast v1841
  ![1, 12, v1844.toNat]
def k1_off113 (k1_t12 : Fin k1_t12_loop.trips) : Fin 3 → Nat :=
  let c1_i32_228 : BitVec 32 := 1#32
  let v1849 : Index := Scalar.indexCast c1_i32_228
  let c13_i32_229 : BitVec 32 := 13#32
  let v1850 : Index := Scalar.indexCast c13_i32_229
  let c0_i32_187 : BitVec 32 := 0#32
  let c1_i32_189 : BitVec 32 := 1#32
  let arg22 : BitVec 32 := Scf.iv c0_i32_187 c1_i32_189 k1_t12
  let c16_i32_227 : BitVec 32 := 16#32
  let v1848 : BitVec 32 := Scalar.muli arg22 c16_i32_227
  let v1851 : Index := Scalar.indexCast v1848
  ![1, 13, v1851.toNat]
def k1_off114 (k1_t12 : Fin k1_t12_loop.trips) : Fin 3 → Nat :=
  let c1_i32_231 : BitVec 32 := 1#32
  let v1856 : Index := Scalar.indexCast c1_i32_231
  let c14_i32_232 : BitVec 32 := 14#32
  let v1857 : Index := Scalar.indexCast c14_i32_232
  let c0_i32_187 : BitVec 32 := 0#32
  let c1_i32_189 : BitVec 32 := 1#32
  let arg22 : BitVec 32 := Scf.iv c0_i32_187 c1_i32_189 k1_t12
  let c16_i32_230 : BitVec 32 := 16#32
  let v1855 : BitVec 32 := Scalar.muli arg22 c16_i32_230
  let v1858 : Index := Scalar.indexCast v1855
  ![1, 14, v1858.toNat]
def k1_off115 (k1_t12 : Fin k1_t12_loop.trips) : Fin 3 → Nat :=
  let c1_i32_234 : BitVec 32 := 1#32
  let v1863 : Index := Scalar.indexCast c1_i32_234
  let c15_i32_235 : BitVec 32 := 15#32
  let v1864 : Index := Scalar.indexCast c15_i32_235
  let c0_i32_187 : BitVec 32 := 0#32
  let c1_i32_189 : BitVec 32 := 1#32
  let arg22 : BitVec 32 := Scf.iv c0_i32_187 c1_i32_189 k1_t12
  let c16_i32_233 : BitVec 32 := 16#32
  let v1862 : BitVec 32 := Scalar.muli arg22 c16_i32_233
  let v1865 : Index := Scalar.indexCast v1862
  ![1, 15, v1865.toNat]
def k1_cond2 : BitVec 1 :=
  let c0_i32_41 : BitVec 32 := 0#32
  let c2_i32_118 : BitVec 32 := 2#32
  let v926 : BitVec 32 := Scalar.muli c0_i32_41 c2_i32_118
  let c1_i32_119 : BitVec 32 := 1#32
  let v927 : BitVec 32 := Scalar.addi v926 c1_i32_119
  let c2_i32_199 : BitVec 32 := 2#32
  let v1793 : BitVec 32 := Scalar.addi v927 c2_i32_199
  let c2_i32_200 : BitVec 32 := 2#32
  let v1794 : BitVec 1 := Scalar.cmpi .slt v1793 c2_i32_200
  let v1795 : BitVec 32 := Scalar.extui v1794
  let c0_i32_201 : BitVec 32 := 0#32
  let v1796 : BitVec 1 := Scalar.cmpi .ne v1795 c0_i32_201
  v1796

def k1_off116 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_41 : BitVec 32 := 0#32
  let c2_i32_118 : BitVec 32 := 2#32
  let v926 : BitVec 32 := Scalar.muli c0_i32_41 c2_i32_118
  let c1_i32_119 : BitVec 32 := 1#32
  let v927 : BitVec 32 := Scalar.addi v926 c1_i32_119
  let c2_i32_211 : BitVec 32 := 2#32
  let v1810 : BitVec 32 := Scalar.addi v927 c2_i32_211
  let c16_i32_212 : BitVec 32 := 16#32
  let v1811 : BitVec 32 := Scalar.muli v1810 c16_i32_212
  let v1812 : BitVec 32 := Scalar.addi v2 v1811
  let c0_i32_216 : BitVec 32 := 0#32
  ![v1812.toNat, 0]
def k1_off117 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_41 : BitVec 32 := 0#32
  let c2_i32_118 : BitVec 32 := 2#32
  let v926 : BitVec 32 := Scalar.muli c0_i32_41 c2_i32_118
  let c1_i32_119 : BitVec 32 := 1#32
  let v927 : BitVec 32 := Scalar.addi v926 c1_i32_119
  let c2_i32_211 : BitVec 32 := 2#32
  let v1810 : BitVec 32 := Scalar.addi v927 c2_i32_211
  let c16_i32_212 : BitVec 32 := 16#32
  let v1811 : BitVec 32 := Scalar.muli v1810 c16_i32_212
  let v1812 : BitVec 32 := Scalar.addi v2 v1811
  let c0_i32_223 : BitVec 32 := 0#32
  ![v1812.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x512 : Shape := ⟨2, ![16384, 512]⟩
abbrev S16384x1024 : Shape := ⟨2, ![16384, 1024]⟩
abbrev S1x512 : Shape := ⟨2, ![1, 512]⟩
abbrev S1x1024 : Shape := ⟨2, ![1, 1024]⟩
abbrev S1 : Shape := ⟨1, ![1]⟩
abbrev S512x1 : Shape := ⟨2, ![512, 1]⟩
abbrev S16384x1 : Shape := ⟨2, ![16384, 1]⟩
abbrev S1024x1 : Shape := ⟨2, ![1024, 1]⟩
abbrev S1x1 : Shape := ⟨2, ![1, 1]⟩
abbrev S16384 : Shape := ⟨1, ![16384]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S1x512, .f32⟩
  | .hbm, ⟨4, _⟩ => ⟨S1x1024, .f32⟩
  | .hbm, ⟨5, _⟩ => ⟨S1x1024, .f32⟩
  | .hbm, ⟨6, _⟩ => ⟨S1, .f32⟩
  | .hbm, ⟨7, _⟩ => ⟨S512x1, .f32⟩
  | .hbm, ⟨8, _⟩ => ⟨S16384x1, .f32⟩
  | .hbm, ⟨9, _⟩ => ⟨S1024x1, .f32⟩
  | .hbm, ⟨10, _⟩ => ⟨S16384x1, .f32⟩
  | .hbm, ⟨11, _⟩ => ⟨S16384x1, .f32⟩
  | .hbm, ⟨12, _⟩ => ⟨S1024x1, .f32⟩
  | .hbm, ⟨13, _⟩ => ⟨S16384x1, .f32⟩
  | .hbm, ⟨14, _⟩ => ⟨S16384x1, .f32⟩
  | .hbm, ⟨15, _⟩ => ⟨S1x1, .f32⟩
  | .hbm, ⟨16, _⟩ => ⟨S16384x1, .f32⟩
  | .hbm, ⟨17, _⟩ => ⟨S16384x1, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Proof.Setup.lean ====
/-
  The launch of the kernel as the launch theorem for SparseCore programs sees it: the configuration, the resource
  algebra (the handshakes' rounds, the TensorCore pipeline's rounds, the transfers' counters), and the names of the
  memrefs that a tile's body is called with.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Score

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

/-- The handshakes' rounds. -/
abbrev EH : Emb UH (MT nD τ sig (HIx 1) (Elt F) ℕ UU ℕ) := embL
/-- The TensorCore pipeline's rounds. -/
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

/-! ## The memrefs of a tile's body -/

abbrev eA : Memref sig .scVector .hbm S16384x512 .f32 := Memref.whole main_arg0_scv
abbrev hA : Memref sig .scVector .hbm S16384x1024 .f32 := Memref.whole main_arg1_scv
abbrev cA : Memref sig .scVector .hbm S16384x1024 .f32 := Memref.whole main_arg2_scv
abbrev wxA : Memref sig .scVector .hbm S512 .f32 := Memref.whole main_v0_scv
abbrev whA : Memref sig .scVector .hbm S1024 .f32 := Memref.whole main_v1_scv
abbrev wcA : Memref sig .scVector .hbm S1024 .f32 := Memref.whole main_v2_scv
abbrev bA : Memref sig .scVector .hbm S16 .f32 := Memref.whole main_v3_scv
abbrev oA : Memref sig .scVector .hbm S1024 .f32 := Memref.whole main_v6_scv
abbrev eB : Memref sig .scVector .vmem S2x16x512 .f32 := Memref.whole cc1_scratch0
abbrev hB : Memref sig .scVector .vmem S2x16x1024 .f32 := Memref.whole cc1_scratch1
abbrev cB : Memref sig .scVector .vmem S2x16x1024 .f32 := Memref.whole cc1_scratch2
abbrev wxB : Memref sig .scVector .vmem S512 .f32 := Memref.whole cc1_scratch3
abbrev whB : Memref sig .scVector .vmem S1024 .f32 := Memref.whole cc1_scratch4
abbrev wcB : Memref sig .scVector .vmem S1024 .f32 := Memref.whole cc1_scratch5
abbrev bB : Memref sig .scVector .vmem S16 .f32 := Memref.whole cc1_scratch6
abbrev oB : Memref sig .scVector .vmem S2x16 .f32 := Memref.whole cc1_scratch7

abbrev cV (L : grid1.Coords) : Fin τ.nSC := (L 0).castLE hcore1
abbrev jV (L : grid1.Coords) : Fin τ.nSub := (L 1).castLE hsub1

end Cert.Proof.Score
-- ==== Proof.Block.lean ====
module
public import proofs.«01_k».proof.Proof.Setup
public import proofs.«01_k».proof.Proof.Gen.KernelIdeal.Launch
public import proofs.«01_k».proof.Proof.Gen.KernelIdeal.Points
public import Idealize.ShloMosaic.Lib.Pipeline.Value
public import Idealize.ShloMosaic.Lib.Pipeline.Regions

@[expose] public section

/-! # The TensorCore call

The grid has fifteen points; each reads a block of 1024 rows of the three activations and the whole of the
weights and the bias, and leaves the 1024 scores of those rows. -/

noncomputable section
namespace Cert.Proof.Score
open Cert.KernelIdeal Cert.KernelIdeal.Gen
open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig (HIx 1) (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The scores one point computes from the blocks it finds. -/
def blockScores (e : Vec F S1024x512 .f32) (h k : Vec F S1024x1024 .f32) (wx : Vec F S1x512 .f32) (wh wc : Vec F S1x1024 .f32)
    (b : Vec F S1x1 .f32) : Vec F S1024 .f32 := k0_pay1 e wx h wh k wc b

variable [∀ e, Nonempty (Elt F e)]

/-- A load of a whole buffer reads what the buffer holds. -/
theorem read_at_whole {sp : Space} {S : Shape} {e : EltTy} (M : Memref sig .tc sp S e) {off : Fin S.rank → Nat} (h : off = fun _ => 0)
    (inb : ∀ a, off a + S.size a ≤ S.size a) (f : M.view.ty.Contents (Elt F)) :
    M.view.readAt (Elt F) (Rect.unit off S.size inb).toLoadRect f = M.view.read (Elt F) f :=
  (View.readAt_eq_ld _ _ _).trans (View.ld_unit_zero h inb _)

/-- A store of a whole buffer leaves what was stored. -/
theorem read_write_whole {sp : Space} {S : Shape} {e : EltTy} (M : Memref sig .tc sp S e) {off : Fin S.rank → Nat} (h : off = fun _ => 0)
    (inb : ∀ a, off a + S.size a ≤ S.size a) (f : M.view.ty.Contents (Elt F)) (w : S.Idx → Elt F e) :
    M.view.read (Elt F) (M.view.writes (Elt F) f [⟨Rect.unit off S.size inb, w⟩]) = w :=
  (View.read_writes_eq_canon _ _ _ (fun y => ⟨_, List.mem_singleton_self _, View.mem_set_unit_zero h inb y⟩)).trans
    (View.canon_unit_zero h inb w)

/-- The body of the call, from its eight staging buffers to its return: the seven inputs as they were, and the
    output at the scores of the blocks. -/
theorem block_run (c : Dev nD) (i : grid0.Coords) (M1 : Memref sig .tc .vmem S1024x512 .f32) (h1 : M1.IsWhole) (M2 : Memref sig .tc .vmem S1024x1024 .f32) (h2 : M2.IsWhole)
    (M3 : Memref sig .tc .vmem S1024x1024 .f32) (h3 : M3.IsWhole) (M4 : Memref sig .tc .vmem S1x512 .f32) (h4 : M4.IsWhole)
    (M5 : Memref sig .tc .vmem S1x1024 .f32) (h5 : M5.IsWhole) (M6 : Memref sig .tc .vmem S1x1024 .f32) (h6 : M6.IsWhole)
    (M7 : Memref sig .tc .vmem S1x1 .f32) (h7 : M7.IsWhole) (M8 : Memref sig .tc .vmem S1024 .f32) (h8 : M8.IsWhole)
    (e : Vec F S1024x512 .f32) (h k : Vec F S1024x1024 .f32) (wx : Vec F S1x512 .f32) (wh wc : Vec F S1x1024 .f32)
    (b : Vec F S1x1 .f32) (Q : PUnit → sProp 𝕄) :
    iprop(owns (c : Thread nD τ) M1 fullShare e ∗ owns (c : Thread nD τ) M2 fullShare h ∗ owns (c : Thread nD τ) M3 fullShare k
        ∗ owns (c : Thread nD τ) M4 fullShare wx ∗ owns (c : Thread nD τ) M5 fullShare wh ∗ owns (c : Thread nD τ) M6 fullShare wc
        ∗ owns (c : Thread nD τ) M7 fullShare b ∗ (∃ o, owns (c : Thread nD τ) M8 fullShare o)
        ∗ (iprop(owns (c : Thread nD τ) M1 fullShare e ∗ owns (c : Thread nD τ) M2 fullShare h ∗ owns (c : Thread nD τ) M3 fullShare k
            ∗ owns (c : Thread nD τ) M4 fullShare wx ∗ owns (c : Thread nD τ) M5 fullShare wh ∗ owns (c : Thread nD τ) M6 fullShare wc
            ∗ owns (c : Thread nD τ) M7 fullShare b ∗ owns (c : Thread nD τ) M8 fullShare (blockScores e h k wx wh wc b)) -∗ Q ⟨⟩))
      ⊢ wp frame (wpE (defs₀ (F := F)) 𝒱₀ c none) Set.univ (cc0__tc_body i M1 h1 M2 h2 M3 h3 M4 h4 M5 h5 M6 h6 M7 h7 M8 h8) Q := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%o, %f8, -, H8⟩, Hk⟩
  rw [cc0__tc_body_eq_skeleton]
  unfold cc0__tc_body_skel
  rw [Memref.IsWhole.set_eq_univ h1, Memref.IsWhole.set_eq_univ h2, Memref.IsWhole.set_eq_univ h3,
    Memref.IsWhole.set_eq_univ h4, Memref.IsWhole.set_eq_univ h5, Memref.IsWhole.set_eq_univ h6,
    Memref.IsWhole.set_eq_univ h7, Memref.IsWhole.set_eq_univ h8]
  sl_exec
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]; · iexists f5; isplitr; swap; (· iexact H5); ipureintro; exact e5
  isplitl [H6]; · iexists f6; isplitr; swap; (· iexact H6); ipureintro; exact e6
  isplitl [H7]; · iexists f7; isplitr; swap; (· iexact H7); ipureintro; exact e7
  iexists _; isplitr; swap; (· iexact H8)
  ipureintro
  rw [read_at_whole M1 (by decide), read_at_whole M2 (by decide), read_at_whole M3 (by decide), read_at_whole M4 (by decide),
    read_at_whole M5 (by decide), read_at_whole M6 (by decide), read_at_whole M7 (by decide), e1, e2, e3, e4, e5, e6, e7]
  exact read_write_whole M8 (by decide) _ _ _

end Cert.Proof.Score
-- ==== Proof.Region.lean ====
module
public import proofs.«01_k».proof.Proof.Block
public import Idealize.ShloMosaic.Lib.Pipeline.RegionsLoop

@[expose] public section

/-! # The TensorCore call over the thread's state

What every staging buffer holds at every point, what the call leaves in its result array, and the call taken from
the unscoped buffers at one valuation to the unscoped buffers at the next. -/

noncomputable section
namespace Cert.Proof.Score
open Cert.KernelIdeal Cert.KernelIdeal.Gen
open Idealize.ShloMosaic
open Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [∀ e, Nonempty (Elt F e)]
local notation "𝕄" => MT nD τ sig (HIx 1) (Elt F) ℕ UU ℕ

variable (V : (c : Dev nD) → (b : Ref sig .tc) → Buf (Elt F) ((c : Thread nD τ).loc b))

/-- The block of a window at a point, as it stands in the arrays when the call begins. -/
abbrev blkIn (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scores of the rows of point `t`. -/
abbrev ptScores (c : Dev nD) (t : Fin cfg0.N) : Vec F S1024 .f32 :=
  blockScores (blkIn V c 0 t) (blkIn V c 1 t) (blkIn V c 2 t) (blkIn V c 3 t) (blkIn V c 4 t) (blkIn V c 5 t) (blkIn V c 6 t)

/-- What is known of the call at every point: each input's buffer holds its block, the output's the scores of the
    point's rows; the core owes what it owes before the vector subcores are started, and has waited for nothing of theirs. -/
def dat (c : Dev nD) : Dat τ (Elt F) (HIx 1) ℕ UU ℕ cfg0 c where
  A w := V c (Pipeline.arrRef spec0 w)
  after w t := match w with
    | ⟨0, _⟩ => blkIn V c 0 t
    | ⟨1, _⟩ => blkIn V c 1 t
    | ⟨2, _⟩ => blkIn V c 2 t
    | ⟨3, _⟩ => blkIn V c 3 t
    | ⟨4, _⟩ => blkIn V c 4 t
    | ⟨5, _⟩ => blkIn V c 5 t
    | ⟨6, _⟩ => blkIn V c 6 t
    | ⟨7, _⟩ => ptScores V c t
  Φ _ := BI.emp
  q _ := fullShare
  owed _ := (K (F := F)).Otc c 0
  recorded _ := {p | (K (F := F)).lev ((c : Thread nD τ), p.1) p.2 ≤ 0}

theorem before_eq (c : Dev nD) (w : Fin cfg0.W) (hw : w ≠ 7) (t : Fin cfg0.N) (d) : (dat V c).before w t d = (dat V c).after w t := by
  have key : ∀ w : Fin cfg0.W, w ≠ 7 → (cfg0.win w).isOut = false := by decide
  fin_cases w
  · exact (dat V c).before_in_eq_fetched 0 rfl (fun _ => rfl) (fun _ _ _ => rfl) (fun _ => rfl) t d
  · exact (dat V c).before_in_eq_fetched 1 rfl (fun _ => rfl) (fun _ _ _ => rfl) (fun _ => rfl) t d
  · exact (dat V c).before_in_eq_fetched 2 rfl (fun _ => rfl) (fun _ _ _ => rfl) (fun _ => rfl) t d
  · exact (dat V c).before_in_eq_fetched 3 rfl (fun _ => rfl) (fun _ _ _ => rfl) (fun _ => rfl) t d
  · exact (dat V c).before_in_eq_fetched 4 rfl (fun _ => rfl) (fun _ _ _ => rfl) (fun _ => rfl) t d
  · exact (dat V c).before_in_eq_fetched 5 rfl (fun _ => rfl) (fun _ _ _ => rfl) (fun _ => rfl) t d
  · exact (dat V c).before_in_eq_fetched 6 rfl (fun _ => rfl) (fun _ _ _ => rfl) (fun _ => rfl) t d
  · exact absurd rfl hw

/-- The body obligation of the call. -/
theorem body_obligation (c : Dev nD) : BodyObligation (dat V c) (defs₀ (F := F)) 𝒱₀ none Set.univ := fun t => by
  rw [bigSep_W0, bigSep_W0]
  rw [show (dat V c).owesAt none t.succ = (dat V c).owesAt none t.castSucc from rfl,
    show (dat V c).Φ t.castSucc = BI.emp from rfl, show (dat V c).Φ t.succ = BI.emp from rfl]
  dsimp only
  simp only [before_eq V c 0 (by decide), before_eq V c 1 (by decide), before_eq V c 2 (by decide), before_eq V c 3 (by decide),
    before_eq V c 4 (by decide), before_eq V c 5 (by decide), before_eq V c 6 (by decide)]
  iintro ⟨-, Howes, ⟨%d0, H0⟩, ⟨%d1, H1⟩, ⟨%d2, H2⟩, ⟨%d3, H3⟩, ⟨%d4, H4⟩, ⟨%d5, H5⟩, ⟨%d6, H6⟩, ⟨%d7, H7⟩⟩
  iapply (block_run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (blkIn V c 0 t) (blkIn V c 1 t) (blkIn V c 2 t) (blkIn V c 3 t) (blkIn V c 4 t) (blkIn V c 5 t) (blkIn V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitr; · iempintro
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

variable (adm : (p : Fin 1) → (pcfgs (F := F) p).Adm)

/-- The program's one pipeline, on its data. -/
def pdats : (p : Fin 1) → (c : Dev nD) → Dat τ (Elt F) (HIx 1) ℕ UU ℕ (Pipeline.pin (pcfgs (F := F)) adm p) c
  | ⟨0, _⟩ => fun c => dat V c

/-- What the call leaves in its result array. -/
def scored (c : Dev nD) : Buf (Elt F) ((c : Thread nD τ).loc main_v5) := (dat V c).arrAt 7 cfg0.N

variable (Vp : (c : Dev nD) → (b : Ref sig .tc) → Buf (Elt F) ((c : Thread nD τ).loc b))

/-- What the core owes before the vector subcores are started, having waited for nothing of theirs. -/
abbrev dues (c : Dev nD) : sProp 𝕄 :=
  iprop(∃ W, ⌜(K (F := F)).WBelow (c : Thread nD τ) W 0⌝ ∗ owes (c : Thread nD τ) ((K (F := F)).Otc c 0) W)

theorem Otc_none (c : Dev nD) (g : GSem nD τ sig) : (K (F := F)).Otc c 0 g none = 0 :=
  Nat.eq_zero_of_not_pos fun h => absurd (SparseCore.Cfg.lev_of_Otc_pos h) (by simp)

set_option backward.isDefEq.respectTransparency.types false in
/-- The call from the unscoped buffers at `V` to the unscoped buffers at `Vp`, which is `V` but for the result array. -/
def reg (hVp_out : ∀ c, Vp c main_v5 = scored V c) (hVp_ne : ∀ c (b : Ref sig .tc), b ≠ main_v5 → Vp c b = V c b) :
    Pipeline.RegionSeg (pcfgs (F := F)) adm (pdats V adm) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro (Pipeline.pin (pcfgs (F := F)) adm) (pdats V adm) none 0 c fun w s t =>
    (K (F := F)).mayWait_none _ (Otc_none c)
  pre c := iprop(unscopedBufs c (V c) ∗ dues c)
  post c := iprop(unscopedBufs c (Vp c) ∗ dues c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V adm) launch0.win launch0.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = BI.emp from rfl]
    iintro -; iempintro
  hout c := by
    rw [Pipeline.ownSems0_none, show (pdats V adm 0 c).Φ (Fin.last _) = BI.emp from rfl]
    iintro -
    isplitr; · iempintro
    isplitr; · iempintro
    rw [show Pipeline.scopedRest _ c = _ from scopedRest0_eq c]
    iempintro
  hexit c := by
    have hjoin := Pipeline.unscopedBufs_of_arrays (p := 0) (pcfgs (F := F)) adm (Ix := HIx 1) (Name := ℕ) (U := UU) (Lvl := ℕ) launch0.win launch0.arr_whole c
      (pdats V adm) ((pdats V adm 0 c).share_full fun _ => rfl) (V c) (Vp c) ((pdats V adm 0 c).arrAt · cfg0.N)
      (fun w => by
        fin_cases w
        · exact ((pdats V adm 0 c).arrAt_in 0 rfl _).trans (hVp_ne c main_arg0 (by decide)).symm
        · exact ((pdats V adm 0 c).arrAt_in 1 rfl _).trans (hVp_ne c main_arg1 (by decide)).symm
        · exact ((pdats V adm 0 c).arrAt_in 2 rfl _).trans (hVp_ne c main_arg2 (by decide)).symm
        · exact ((pdats V adm 0 c).arrAt_in 3 rfl _).trans (hVp_ne c main_arg3 (by decide)).symm
        · exact ((pdats V adm 0 c).arrAt_in 4 rfl _).trans (hVp_ne c main_arg4 (by decide)).symm
        · exact ((pdats V adm 0 c).arrAt_in 5 rfl _).trans (hVp_ne c main_arg5 (by decide)).symm
        · exact ((pdats V adm 0 c).arrAt_in 6 rfl _).trans (hVp_ne c main_v4 (by decide)).symm
        · exact (hVp_out c).symm)
      (fun b hb => hVp_ne c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact le_rfl
    iexact HO

end Cert.Proof.Score
-- ==== Proof.Rows.lean ====
/-
  One accumulation loop of a tile, once for all twelve: eight rows' lane accumulators, each trip adding the products of
  sixteen columns of the weights with the same columns of the eight rows.
-/
module

public import proofs.«01_k».proof.Proof.Setup

@[expose] public section

noncomputable section

namespace Cert.Proof.Score

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Eight lane accumulators, carried by a loop. -/
abbrev Acc8 (F : FTy → Type) : Type :=
  FVec F S16 .f32 × FVec F S16 .f32 × FVec F S16 .f32 × FVec F S16 .f32 × FVec F S16 .f32 × FVec F S16 .f32 × FVec F S16 .f32 × FVec F S16 .f32

/-- The eight accumulators of a family. -/
def tup8 (f : Fin 8 → FVec F S16 .f32) : Acc8 F := (f 0, f 1, f 2, f 3, f 4, f 5, f 6, f 7)

/-- One trip's step for one row: the accumulator plus the product of the row's sixteen columns with the weights'. -/
abbrev stepV (a : FVec F S16 .f32) (w : Vec F S16 .f32) (b : Vec F S1x1x16 .f32) : FVec F S16 .f32 := k1_pay1 a w b

/-- A row's accumulator after `n` trips. -/
def accN {N : ℕ} (w : Fin N → Vec F S16 .f32) (b : Fin N → Vec F S1x1x16 .f32) (a : FVec F S16 .f32) : ℕ → FVec F S16 .f32
  | 0 => a
  | n + 1 => if h : n < N then stepV (accN w b a n) (w ⟨n, h⟩) (b ⟨n, h⟩) else accN w b a n

theorem accN_succ {N : ℕ} (w : Fin N → Vec F S16 .f32) (b : Fin N → Vec F S1x1x16 .f32) (a : FVec F S16 .f32) (k : Fin N) :
    accN w b a (k.val + 1) = stepV (accN w b a k.val) (w k) (b k) := by
  rw [accN, dif_pos k.isLt]

/-- One trip of an accumulation loop: the weights' sixteen columns and the eight rows' read, the accumulators stepped. -/
def trip8 (L : grid1.Coords) {nW : ℕ} {dB : Fin 3 → ℕ} (wM : Memref sig .scVector .vmem ⟨1, ![nW]⟩ .f32) (bM : Memref sig .scVector .vmem ⟨3, dB⟩ .f32)
    {N : ℕ} (oW : Fin N → Fin 1 → ℕ) (hoW : ∀ k a, oW k a + S16.size a ≤ (⟨1, ![nW]⟩ : Shape).size a)
    (oB : Fin 8 → Fin N → Fin 3 → ℕ) (hoB : ∀ j k a, oB j k a + S1x1x16.size a ≤ (⟨3, dB⟩ : Shape).size a)
    (k : Fin N) (a : Acc8 F) :
    Prog (TpuEff nD τ sig (Elt F) Λ₀ (.scVector ((L 0).castLE hcore1) ((L 1).castLE hsub1))) (Acc8 F) := do
  let w : Vec F S16 .f32 ← Prog.lift (.load wM (Rect.unit (s := ⟨1, ![nW]⟩) (oW k) S16.size (hoW k)).toLoadRect (View.loadsAt_vmem h_S16))
  let b0 : Vec F S1x1x16 .f32 ← Prog.lift (.load bM (Rect.unit (s := ⟨3, dB⟩) (oB 0 k) S1x1x16.size (hoB 0 k)).toLoadRect (View.loadsAt_vmem h_S1x1x16))
  let b1 : Vec F S1x1x16 .f32 ← Prog.lift (.load bM (Rect.unit (s := ⟨3, dB⟩) (oB 1 k) S1x1x16.size (hoB 1 k)).toLoadRect (View.loadsAt_vmem h_S1x1x16))
  let b2 : Vec F S1x1x16 .f32 ← Prog.lift (.load bM (Rect.unit (s := ⟨3, dB⟩) (oB 2 k) S1x1x16.size (hoB 2 k)).toLoadRect (View.loadsAt_vmem h_S1x1x16))
  let b3 : Vec F S1x1x16 .f32 ← Prog.lift (.load bM (Rect.unit (s := ⟨3, dB⟩) (oB 3 k) S1x1x16.size (hoB 3 k)).toLoadRect (View.loadsAt_vmem h_S1x1x16))
  let b4 : Vec F S1x1x16 .f32 ← Prog.lift (.load bM (Rect.unit (s := ⟨3, dB⟩) (oB 4 k) S1x1x16.size (hoB 4 k)).toLoadRect (View.loadsAt_vmem h_S1x1x16))
  let b5 : Vec F S1x1x16 .f32 ← Prog.lift (.load bM (Rect.unit (s := ⟨3, dB⟩) (oB 5 k) S1x1x16.size (hoB 5 k)).toLoadRect (View.loadsAt_vmem h_S1x1x16))
  let b6 : Vec F S1x1x16 .f32 ← Prog.lift (.load bM (Rect.unit (s := ⟨3, dB⟩) (oB 6 k) S1x1x16.size (hoB 6 k)).toLoadRect (View.loadsAt_vmem h_S1x1x16))
  let b7 : Vec F S1x1x16 .f32 ← Prog.lift (.load bM (Rect.unit (s := ⟨3, dB⟩) (oB 7 k) S1x1x16.size (hoB 7 k)).toLoadRect (View.loadsAt_vmem h_S1x1x16))
  pure (stepV a.1 w b0, stepV a.2.1 w b1, stepV a.2.2.1 w b2, stepV a.2.2.2.1 w b3, stepV a.2.2.2.2.1 w b4, stepV a.2.2.2.2.2.1 w b5,
    stepV a.2.2.2.2.2.2.1 w b6, stepV a.2.2.2.2.2.2.2 w b7)

/-- The loop's invariant: the weights and the rows held, the accumulators those of `k` trips over the columns `wv` of the
    weights and `bv` of the rows. -/
def inv8 (d : Dev nD) (L : grid1.Coords) {nW : ℕ} {dB : Fin 3 → ℕ} (wM : Memref sig .scVector .vmem ⟨1, ![nW]⟩ .f32) (bM : Memref sig .scVector .vmem ⟨3, dB⟩ .f32)
    {N : ℕ} (Sw : Finset (Idx (wM.view.loc (V d (cV L) (jV L))))) (Sb : Finset (Idx (bM.view.loc (V d (cV L) (jV L)))))
    (fw : Buf (Elt F) (wM.view.loc (V d (cV L) (jV L)))) (fb : Buf (Elt F) (bM.view.loc (V d (cV L) (jV L))))
    (wv : Fin N → Vec F S16 .f32) (bv : Fin 8 → Fin N → Vec F S1x1x16 .f32) (a : Fin 8 → FVec F S16 .f32) (k : ℕ) (acc : Acc8 F) : sProp 𝕄 :=
  iprop((wM.view.loc (V d (cV L) (jV L)) ↦[Sw]{fullShare} fw) ∗ (bM.view.loc (V d (cV L) (jV L)) ↦[Sb]{fullShare} fb)
    ∗ ⌜acc = tup8 fun j => accN wv (bv j) (a j) k⌝)

/-- One trip keeps the invariant. -/
theorem trip8_wp (d : Dev nD) (L : grid1.Coords) {nW : ℕ} {dB : Fin 3 → ℕ} (wM : Memref sig .scVector .vmem ⟨1, ![nW]⟩ .f32) (bM : Memref sig .scVector .vmem ⟨3, dB⟩ .f32)
    {N : ℕ} {oW : Fin N → Fin 1 → ℕ} {hoW : ∀ k a, oW k a + S16.size a ≤ (⟨1, ![nW]⟩ : Shape).size a}
    {oB : Fin 8 → Fin N → Fin 3 → ℕ} {hoB : ∀ j k a, oB j k a + S1x1x16.size a ≤ (⟨3, dB⟩ : Shape).size a}
    {Sw : Finset (Idx (wM.view.loc (V d (cV L) (jV L))))} {Sb : Finset (Idx (bM.view.loc (V d (cV L) (jV L))))}
    {fw : Buf (Elt F) (wM.view.loc (V d (cV L) (jV L)))} {fb : Buf (Elt F) (bM.view.loc (V d (cV L) (jV L)))}
    {wv : Fin N → Vec F S16 .f32} {bv : Fin 8 → Fin N → Vec F S1x1x16 .f32}
    (hSw : ∀ k, wM.view.setOn (Rect.unit (s := ⟨1, ![nW]⟩) (oW k) S16.size (hoW k)).toLoadRect.set ⊆ Sw)
    (hSb : ∀ j k, bM.view.setOn (Rect.unit (s := ⟨3, dB⟩) (oB j k) S1x1x16.size (hoB j k)).toLoadRect.set ⊆ Sb)
    (hwv : ∀ k, wM.view.readAt (Elt F) (Rect.unit (s := ⟨1, ![nW]⟩) (oW k) S16.size (hoW k)).toLoadRect fw = wv k)
    (hbv : ∀ j k, bM.view.readAt (Elt F) (Rect.unit (s := ⟨3, dB⟩) (oB j k) S1x1x16.size (hoB j k)).toLoadRect fb = bv j k)
    (a : Fin 8 → FVec F S16 .f32) (k : Fin N) (acc : Acc8 F) :
    inv8 d L wM bM Sw Sb fw fb wv bv a k.val acc
      ⊢ wp frame (wpE (defs₀ (F := F)) 𝒱₀ (V d (cV L) (jV L)) none) Set.univ (trip8 L wM bM oW hoW oB hoB k acc)
          (inv8 d L wM bM Sw Sb fw fb wv bv a (k.val + 1)) := by
  unfold inv8 trip8
  iintro ⟨Hw, Hb, %hacc⟩
  subst hacc
  iapply (wp_load 𝒱₀ (V d (cV L) (jV L)) none Set.univ (hSw k)) $$ Hw
  iintro Hw
  iapply (wp_load 𝒱₀ (V d (cV L) (jV L)) none Set.univ (hSb 0 k)) $$ Hb
  iintro Hb
  iapply (wp_load 𝒱₀ (V d (cV L) (jV L)) none Set.univ (hSb 1 k)) $$ Hb
  iintro Hb
  iapply (wp_load 𝒱₀ (V d (cV L) (jV L)) none Set.univ (hSb 2 k)) $$ Hb
  iintro Hb
  iapply (wp_load 𝒱₀ (V d (cV L) (jV L)) none Set.univ (hSb 3 k)) $$ Hb
  iintro Hb
  iapply (wp_load 𝒱₀ (V d (cV L) (jV L)) none Set.univ (hSb 4 k)) $$ Hb
  iintro Hb
  iapply (wp_load 𝒱₀ (V d (cV L) (jV L)) none Set.univ (hSb 5 k)) $$ Hb
  iintro Hb
  iapply (wp_load 𝒱₀ (V d (cV L) (jV L)) none Set.univ (hSb 6 k)) $$ Hb
  iintro Hb
  iapply (wp_load 𝒱₀ (V d (cV L) (jV L)) none Set.univ (hSb 7 k)) $$ Hb
  iintro Hb
  simp only [Prog.bind, Pure.pure, wp_ret]
  imodintro
  isplitl [Hw]; · iexact Hw
  isplitl [Hb]; · iexact Hb
  ipureintro
  simp only [tup8, accN_succ, hwv, hbv]

end Cert.Proof.Score
-- ==== Proof.Slots.lean ====
module

public import proofs.«01_k».proof.Proof.Rows
public import Idealize.ShloMosaic.Lib.Pipeline.Value

@[expose] public section

/-! # What a loop reads

The copies leave each slot of a scratch buffer holding sixteen rows of one array, and each weights' scratch holding the
weights. A loop's loads through the whole scratch buffer, sixteen columns at a time, read those rows' columns. -/

noncomputable section

namespace Cert.Proof.Score

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- A vector's index. -/
def ix1 {n : ℕ} (c : Fin n) : (⟨1, ![n]⟩ : Shape).Idx := fun | ⟨0, _⟩ => c

/-- A matrix's index. -/
def ix2 {m n : ℕ} (r : Fin m) (c : Fin n) : (⟨2, ![m, n]⟩ : Shape).Idx := fun | ⟨0, _⟩ => r | ⟨1, _⟩ => c

/-- The sixteen columns of weights that trip `k` takes. -/
def colW {n N : ℕ} (hN : 16 * N = n) (B : (⟨1, ![n]⟩ : Shape).Idx → F .f32) (k : Fin N) : Vec F S16 .f32 := fun x =>
  B (ix1 ⟨16 * k.val + (x 0).val, by have := k.isLt; have : (x 0).val < 16 := (x 0).isLt; omega⟩)

/-- The sixteen columns of row `r` that trip `k` takes. -/
def colR {m n N : ℕ} (hN : 16 * N = n) (A : (⟨2, ![m, n]⟩ : Shape).Idx → F .f32) (r : Fin m) (k : Fin N) : Vec F S1x1x16 .f32 := fun x =>
  A (ix2 r ⟨16 * k.val + (x 2).val, by have := k.isLt; have : (x 2).val < 16 := (x 2).isLt; omega⟩)

/-- A weights' scratch read sixteen columns at a time. -/
theorem weights_read {n N : ℕ} (hN : 16 * N = n) (M : Memref sig .scVector .vmem ⟨1, ![n]⟩ .f32) (f : M.view.ty.Contents (Elt F))
    (B : (⟨1, ![n]⟩ : Shape).Idx → F .f32) (hf : M.view.read (Elt F) f = B) (off : Fin 1 → ℕ)
    (inb : ∀ a, off a + S16.size a ≤ (⟨1, ![n]⟩ : Shape).size a) (k : Fin N) (hoff : off = ![16 * k.val]) :
    M.view.readAt (Elt F) (Rect.unit (s := ⟨1, ![n]⟩) off S16.size inb).toLoadRect f = colW hN B k := by
  subst hoff hf
  funext x
  show M.view.read (Elt F) f _ = M.view.read (Elt F) f _
  congr 1
  funext a
  match a with
  | ⟨0, _⟩ => exact Fin.ext (by show 16 * k.val + 1 * (x 0).val = _; rw [Nat.one_mul]; rfl)

/-- The window of a slot that a load takes lies in the slot. -/
theorem slot_sub {n : ℕ} (M : Memref sig .scVector .vmem ⟨3, ![2, 16, n]⟩ .f32) (s : ℕ)
    (hs : ∀ a, (![s, 0, 0] : Fin 3 → ℕ) a + (![1, 16, n] : Fin 3 → ℕ) a ≤ (⟨3, ![2, 16, n]⟩ : Shape).size a)
    (hq : (⟨3, ![1, 16, n]⟩ : Shape).Squeezes ⟨2, ![16, n]⟩) (off : Fin 3 → ℕ)
    (inb : ∀ a, off a + S1x1x16.size a ≤ (⟨3, ![2, 16, n]⟩ : Shape).size a) (r c : ℕ) (hoff : off = ![s, r, c]) :
    M.view.setOn (Rect.unit (s := ⟨3, ![2, 16, n]⟩) off S1x1x16.size inb).toLoadRect.set
      ⊆ ((M.slice (Rect.unit (s := ⟨3, ![2, 16, n]⟩) ![s, 0, 0] ![1, 16, n] hs) (fun _ => rfl)).squeeze ⟨2, ![16, n]⟩ hq).view.set := by
  subst hoff
  rw [Memref.set_view_squeeze]
  refine Finset.Subset.trans ?_ (View.set_slice M.view (Rect.unit (s := ⟨3, ![2, 16, n]⟩) ![s, 0, 0] ![1, 16, n] hs)).symm.subset
  refine Finset.map_subset_map.2 fun i hi => ?_
  rw [Rect.mem_set_unit] at hi ⊢
  have hi0 := hi 0
  have hb0 := (i 0).isLt
  intro a
  match a with
  | ⟨0, _⟩ => exact hi0
  | ⟨1, _⟩ => exact ⟨Nat.zero_le _, (Nat.zero_add 16).symm ▸ (i 1).isLt⟩
  | ⟨2, _⟩ => exact ⟨Nat.zero_le _, (Nat.zero_add n).symm ▸ (i 2).isLt⟩

/-- A slot read sixteen columns of one row at a time. -/
theorem slot_read {m n N : ℕ} (hN : 16 * N = n) (M : Memref sig .scVector .vmem ⟨3, ![2, 16, n]⟩ .f32) (s : ℕ)
    (hs : ∀ a, (![s, 0, 0] : Fin 3 → ℕ) a + (![1, 16, n] : Fin 3 → ℕ) a ≤ (⟨3, ![2, 16, n]⟩ : Shape).size a)
    (hq : (⟨3, ![1, 16, n]⟩ : Shape).Squeezes ⟨2, ![16, n]⟩) (f : M.view.ty.Contents (Elt F))
    (A : (⟨2, ![m, n]⟩ : Shape).Idx → F .f32) (row : Fin 16 → Fin m)
    (hf : ∀ r c, ((M.slice (Rect.unit (s := ⟨3, ![2, 16, n]⟩) ![s, 0, 0] ![1, 16, n] hs) (fun _ => rfl)).squeeze ⟨2, ![16, n]⟩ hq).view.read (Elt F) f (ix2 r c) = A (ix2 (row r) c))
    (off : Fin 3 → ℕ) (inb : ∀ a, off a + S1x1x16.size a ≤ (⟨3, ![2, 16, n]⟩ : Shape).size a) (r : Fin 16) (k : Fin N)
    (hoff : off = ![s, r.val, 16 * k.val]) :
    M.view.readAt (Elt F) (Rect.unit (s := ⟨3, ![2, 16, n]⟩) off S1x1x16.size inb).toLoadRect f = colR hN A (row r) k := by
  subst hoff
  funext x
  have h2 : (x 2).val < 16 := (x 2).isLt
  have h1 : (x 1).val = 0 := by have : (x 1).val < 1 := (x 1).isLt; omega
  have h0 : (x 0).val = 0 := by have : (x 0).val < 1 := (x 0).isLt; omega
  refine Eq.trans ?_ (hf r ⟨16 * k.val + (x 2).val, by have := k.isLt; omega⟩)
  rw [Memref.read_squeeze_slice _ _ _ _ hq.numel_eq, shapeCast_dropUnit_apply]
  show M.view.read (Elt F) f _ = M.view.read (Elt F) f _
  congr 1
  funext a
  match a with
  | ⟨0, _⟩ => exact Fin.ext (by show s + 1 * (x 0).val = s + 1 * 0; rw [h0])
  | ⟨1, _⟩ => exact Fin.ext (by show r.val + 1 * (x 1).val = 0 + 1 * r.val; rw [h1]; omega)
  | ⟨2, _⟩ => exact Fin.ext (by show 16 * k.val + 1 * (x 2).val = 0 + 1 * (16 * k.val + (x 2).val); omega)

/-- Sixteen rows of a matrix from row `base`, read through their window. -/
theorem rows_read {m n : ℕ} {sp : Space} (M : Memref sig .scVector sp ⟨2, ![m, n]⟩ .f32) (f : M.view.ty.Contents (Elt F)) (off : Fin 2 → ℕ)
    (inb : ∀ a, off a + (![16, n] : Fin 2 → ℕ) a ≤ (⟨2, ![m, n]⟩ : Shape).size a) (base : ℕ) (hoff : off = ![base, 0]) (r : Fin 16) (c : Fin n) (hr : base + r.val < m) :
    (M.slice (Rect.unit (s := ⟨2, ![m, n]⟩) off ![16, n] inb) (fun _ => rfl)).view.read (Elt F) f (ix2 r c) = M.view.read (Elt F) f (ix2 ⟨base + r.val, hr⟩ c) := by
  subst hoff
  show M.view.read (Elt F) f _ = M.view.read (Elt F) f _
  congr 1
  funext a
  match a with
  | ⟨0, _⟩ => exact Fin.ext (by show base + 1 * r.val = base + r.val; omega)
  | ⟨1, _⟩ => exact Fin.ext (by show 0 + 1 * c.val = c.val; omega)

/-- A row's lane accumulators after the columns of `B`, from `a`. -/
def accC {m n : ℕ} (N : ℕ) (hN : 16 * N = n) (B : (⟨1, ![n]⟩ : Shape).Idx → F .f32) (A : (⟨2, ![m, n]⟩ : Shape).Idx → F .f32) (r : Fin m) (a : FVec F S16 .f32) : FVec F S16 .f32 :=
  accN (colW hN B) (colR hN A r) a N

theorem accC_congr {m n N N' : ℕ} (hN : 16 * N = n) (hN' : 16 * N' = n) (B : (⟨1, ![n]⟩ : Shape).Idx → F .f32) (A : (⟨2, ![m, n]⟩ : Shape).Idx → F .f32) (r : Fin m)
    (a : FVec F S16 .f32) : accC N hN B A r a = accC N' hN' B A r a := by
  obtain rfl : N = N' := by omega
  rfl

/-- One trip over a slot that holds the rows `row` of `A`, with weights `B`. -/
theorem trip_slot (d : Dev nD) (L : grid1.Coords) {m n N : ℕ} (hN : 16 * N = n) (wM : Memref sig .scVector .vmem ⟨1, ![n]⟩ .f32) (bM : Memref sig .scVector .vmem ⟨3, ![2, 16, n]⟩ .f32)
    {oW : Fin N → Fin 1 → ℕ} {hoW : ∀ k a, oW k a + S16.size a ≤ (⟨1, ![n]⟩ : Shape).size a}
    {oB : Fin 8 → Fin N → Fin 3 → ℕ} {hoB : ∀ j k a, oB j k a + S1x1x16.size a ≤ (⟨3, ![2, 16, n]⟩ : Shape).size a}
    {fw : Buf (Elt F) (wM.view.loc (V d (cV L) (jV L)))} {fb : Buf (Elt F) (bM.view.loc (V d (cV L) (jV L)))}
    (s r0 : ℕ) (hr0 : r0 + 8 ≤ 16) (hs : ∀ a, (![s, 0, 0] : Fin 3 → ℕ) a + (![1, 16, n] : Fin 3 → ℕ) a ≤ (⟨3, ![2, 16, n]⟩ : Shape).size a)
    (hq : (⟨3, ![1, 16, n]⟩ : Shape).Squeezes ⟨2, ![16, n]⟩)
    (hoffW : ∀ k, oW k = ![16 * k.val]) (hoffB : ∀ j k, oB j k = ![s, r0 + j.val, 16 * k.val])
    {B : (⟨1, ![n]⟩ : Shape).Idx → F .f32} {A : (⟨2, ![m, n]⟩ : Shape).Idx → F .f32} {row : Fin 16 → Fin m}
    (hw : wM.view.read (Elt F) fw = B)
    (hf : ∀ r c, ((bM.slice (Rect.unit (s := ⟨3, ![2, 16, n]⟩) ![s, 0, 0] ![1, 16, n] hs) (fun _ => rfl)).squeeze ⟨2, ![16, n]⟩ hq).view.read (Elt F) fb (ix2 r c) = A (ix2 (row r) c))
    (a : Fin 8 → FVec F S16 .f32) (k : Fin N) (acc : Acc8 F) :
    inv8 d L wM bM Finset.univ ((bM.slice (Rect.unit (s := ⟨3, ![2, 16, n]⟩) ![s, 0, 0] ![1, 16, n] hs) (fun _ => rfl)).squeeze ⟨2, ![16, n]⟩ hq).view.set fw fb
        (colW hN B) (fun j => colR hN A (row ⟨r0 + j.val, by omega⟩)) a k.val acc
      ⊢ wp frame (wpE (defs₀ (F := F)) 𝒱₀ (V d (cV L) (jV L)) none) Set.univ (trip8 L wM bM oW hoW oB hoB k acc)
          (inv8 d L wM bM Finset.univ ((bM.slice (Rect.unit (s := ⟨3, ![2, 16, n]⟩) ![s, 0, 0] ![1, 16, n] hs) (fun _ => rfl)).squeeze ⟨2, ![16, n]⟩ hq).view.set fw fb
            (colW hN B) (fun j => colR hN A (row ⟨r0 + j.val, by omega⟩)) a (k.val + 1)) :=
  trip8_wp d L wM bM (fun _ => Finset.subset_univ _) (fun j k => slot_sub bM s hs hq _ _ _ _ (hoffB j k))
    (fun k => weights_read hN wM fw B hw _ _ k (hoffW k))
    (fun j k => slot_read hN bM s hs hq fb A row hf _ _ ⟨r0 + j.val, by omega⟩ k (hoffB j k)) a k acc

/-- A weights' scratch holding the weights `B`. -/
def wHeld (d : Dev nD) (L : grid1.Coords) {n : ℕ} (wM : Memref sig .scVector .vmem ⟨1, ![n]⟩ .f32) (B : (⟨1, ![n]⟩ : Shape).Idx → F .f32) : sProp 𝕄 :=
  iprop(∃ f : Buf (Elt F) (wM.view.loc (V d (cV L) (jV L))), (wM.view.loc (V d (cV L) (jV L)) ↦[Finset.univ]{fullShare} f) ∗ ⌜wM.view.read (Elt F) f = B⌝)

/-- Slot `s` of a scratch buffer. -/
abbrev slot {n : ℕ} (bM : Memref sig .scVector .vmem ⟨3, ![2, 16, n]⟩ .f32) (s : ℕ)
    (hs : ∀ a, (![s, 0, 0] : Fin 3 → ℕ) a + (![1, 16, n] : Fin 3 → ℕ) a ≤ (⟨3, ![2, 16, n]⟩ : Shape).size a)
    (hq : (⟨3, ![1, 16, n]⟩ : Shape).Squeezes ⟨2, ![16, n]⟩) : Memref sig .scVector .vmem ⟨2, ![16, n]⟩ .f32 :=
  (bM.slice (Rect.unit (s := ⟨3, ![2, 16, n]⟩) ![s, 0, 0] ![1, 16, n] hs) (fun _ => rfl)).squeeze ⟨2, ![16, n]⟩ hq

/-- A slot holding the rows `row` of `A`. -/
def sHeld (d : Dev nD) (L : grid1.Coords) {m n : ℕ} (sM : Memref sig .scVector .vmem ⟨2, ![16, n]⟩ .f32) (A : (⟨2, ![m, n]⟩ : Shape).Idx → F .f32) (row : Fin 16 → Fin m) : sProp 𝕄 :=
  iprop(∃ f : Buf (Elt F) (sM.view.loc (V d (cV L) (jV L))), (sM.view.loc (V d (cV L) (jV L)) ↦[sM.view.set]{fullShare} f)
    ∗ ⌜∀ r c, sM.view.read (Elt F) f (ix2 r c) = A (ix2 (row r) c)⌝)

theorem wHeld_intro (d : Dev nD) (L : grid1.Coords) {n : ℕ} (wM : Memref sig .scVector .vmem ⟨1, ![n]⟩ .f32) (B : (⟨1, ![n]⟩ : Shape).Idx → F .f32)
    (f : Buf (Elt F) (wM.view.loc (V d (cV L) (jV L)))) (h : wM.view.read (Elt F) f = B) :
    (wM.view.loc (V d (cV L) (jV L)) ↦[Finset.univ]{fullShare} f : sProp 𝕄) ⊢ wHeld d L wM B := by
  unfold wHeld
  iintro H
  iexists f
  isplitl [H]; · iexact H
  ipureintro; exact h

theorem sHeld_intro (d : Dev nD) (L : grid1.Coords) {m n : ℕ} (sM : Memref sig .scVector .vmem ⟨2, ![16, n]⟩ .f32) (A : (⟨2, ![m, n]⟩ : Shape).Idx → F .f32) (row : Fin 16 → Fin m)
    (f : Buf (Elt F) (sM.view.loc (V d (cV L) (jV L)))) (h : ∀ r c, sM.view.read (Elt F) f (ix2 r c) = A (ix2 (row r) c)) :
    (sM.view.loc (V d (cV L) (jV L)) ↦[sM.view.set]{fullShare} f : sProp 𝕄) ⊢ sHeld d L sM A row := by
  unfold sHeld
  iintro H
  iexists f
  isplitl [H]; · iexact H
  ipureintro; exact h

/-- A loop's invariant over the rows `row r0 …` of a slot. -/
def invS (d : Dev nD) (L : grid1.Coords) {m n N : ℕ} (hN : 16 * N = n) (wM : Memref sig .scVector .vmem ⟨1, ![n]⟩ .f32) (sM : Memref sig .scVector .vmem ⟨2, ![16, n]⟩ .f32)
    (B : (⟨1, ![n]⟩ : Shape).Idx → F .f32) (A : (⟨2, ![m, n]⟩ : Shape).Idx → F .f32) (row : Fin 16 → Fin m) (row8 : Fin 8 → Fin 16) (a : Fin 8 → FVec F S16 .f32) (k : ℕ) (acc : Acc8 F) : sProp 𝕄 :=
  iprop(wHeld d L wM B ∗ sHeld d L sM A row ∗ ⌜acc = tup8 fun j => accN (colW hN B) (colR hN A (row (row8 j))) (a j) k⌝)

/-- Eight rows of a slot, from row `r0`. -/
abbrev rowsFrom (r0 : ℕ) (hr0 : r0 + 8 ≤ 16) (j : Fin 8) : Fin 16 := ⟨r0 + j.val, by omega⟩

theorem invS_step (d : Dev nD) (L : grid1.Coords) {m n N : ℕ} (hN : 16 * N = n) (wM : Memref sig .scVector .vmem ⟨1, ![n]⟩ .f32) (bM : Memref sig .scVector .vmem ⟨3, ![2, 16, n]⟩ .f32)
    {oW : Fin N → Fin 1 → ℕ} {hoW : ∀ k a, oW k a + S16.size a ≤ (⟨1, ![n]⟩ : Shape).size a}
    {oB : Fin 8 → Fin N → Fin 3 → ℕ} {hoB : ∀ j k a, oB j k a + S1x1x16.size a ≤ (⟨3, ![2, 16, n]⟩ : Shape).size a}
    (s r0 : ℕ) (hr0 : r0 + 8 ≤ 16) (hs : ∀ a, (![s, 0, 0] : Fin 3 → ℕ) a + (![1, 16, n] : Fin 3 → ℕ) a ≤ (⟨3, ![2, 16, n]⟩ : Shape).size a)
    (hq : (⟨3, ![1, 16, n]⟩ : Shape).Squeezes ⟨2, ![16, n]⟩)
    (hoffW : ∀ k, oW k = ![16 * k.val]) (hoffB : ∀ j k, oB j k = ![s, r0 + j.val, 16 * k.val])
    (B : (⟨1, ![n]⟩ : Shape).Idx → F .f32) (A : (⟨2, ![m, n]⟩ : Shape).Idx → F .f32) (row : Fin 16 → Fin m)
    (a : Fin 8 → FVec F S16 .f32) (k : Fin N) (acc : Acc8 F) :
    invS d L hN wM (slot bM s hs hq) B A row (rowsFrom r0 hr0) a k.val acc
      ⊢ wp frame (wpE (defs₀ (F := F)) 𝒱₀ (V d (cV L) (jV L)) none) Set.univ (trip8 L wM bM oW hoW oB hoB k acc)
          (invS d L hN wM (slot bM s hs hq) B A row (rowsFrom r0 hr0) a (k.val + 1)) := by
  unfold invS wHeld sHeld
  iintro ⟨⟨%fw, Hw, %hw⟩, ⟨%fb, Hb, %hf⟩, %hacc⟩
  iapply ((trip_slot (hoW := hoW) (hoB := hoB) (fw := fw) (fb := fb) d L hN wM bM s r0 hr0 hs hq hoffW hoffB hw hf a k acc).trans (wp_mono _ _ _ fun acc' => ?_)) $$ [Hw Hb]
  · unfold inv8
    iintro ⟨Hw, Hb, %hacc⟩
    isplitl [Hw]
    · iexists fw; isplitl [Hw]; · iexact Hw
      ipureintro; exact hw
    isplitl [Hb]
    · iexists fb; isplitl [Hb]; · iexact Hb
      ipureintro; exact hf
    ipureintro; exact hacc
  · unfold inv8
    isplitl [Hw]; · iexact Hw
    isplitl [Hb]; · iexact Hb
    ipureintro; exact hacc

/-- Row `r` of chunk `g` of a tile. -/
def rowOf (L : grid1.Coords) (g : Fin 2) (r : Fin 16) : Fin 16384 :=
  ⟨64 * (L 1).val + 32 * (L 0).val + 16 * g.val + r.val, by
    have h0 : (L 0).val < 2 := (L 0).isLt
    have h1 : (L 1).val < 16 := (L 1).isLt
    omega⟩

/-- A slot that a copy of sixteen rows has filled. -/
theorem sHeld_landed (d : Dev nD) (L : grid1.Coords) {n : ℕ} (sM : Memref sig .scVector .vmem ⟨2, ![16, n]⟩ .f32) (g0 : Buf (Elt F) (sM.view.loc (V d (cV L) (jV L))))
    (M : Memref sig .scVector .hbm ⟨2, ![16384, n]⟩ .f32) (f : M.view.ty.Contents (Elt F)) (off : Fin 2 → ℕ)
    (inb : ∀ a, off a + (![16, n] : Fin 2 → ℕ) a ≤ (⟨2, ![16384, n]⟩ : Shape).size a) (g : Fin 2)
    (hoff : off = ![64 * (L 1).val + 32 * (L 0).val + 16 * g.val, 0]) :
    (sM.view.loc (V d (cV L) (jV L)) ↦[sM.view.set]{fullShare} sM.view.writes (Elt F) g0 [⟨Rect.whole _,
        ReadAs.same.apply ((M.slice (Rect.unit (s := ⟨2, ![16384, n]⟩) off ![16, n] inb) (fun _ => rfl)).view.read (Elt F) f)⟩] : sProp 𝕄)
      ⊢ sHeld d L sM (M.view.read (Elt F) f) (rowOf L g) :=
  sHeld_intro d L sM _ _ _ fun r c =>
    (congrFun (View.read_writes_whole sM.view g0 _) (ix2 r c)).trans (rows_read M f off inb _ hoff r c _)

/-- A weights' scratch that a copy of the weights has filled. -/
theorem wHeld_landed (d : Dev nD) (L : grid1.Coords) {n : ℕ} (wM : Memref sig .scVector .vmem ⟨1, ![n]⟩ .f32) (g0 : Buf (Elt F) (wM.view.loc (V d (cV L) (jV L))))
    (B : (⟨1, ![n]⟩ : Shape).Idx → Elt F .f32) :
    (wM.view.loc (V d (cV L) (jV L)) ↦[Finset.univ]{fullShare} wM.view.write (Elt F) g0 (ReadAs.same.apply B) Finset.univ : sProp 𝕄)
      ⊢ wHeld d L wM B :=
  wHeld_intro d L wM B _ (View.read_write_univ (v := wM.view) g0 _)

end Cert.Proof.Score
-- ==== Proof.Lanes.lean ====
module

public import proofs.«01_k».proof.Proof.Slots
public import Idealize.ShloMosaic.Lib.Pipeline.Value

@[expose] public section

/-! # A chunk's sixteen outputs

The lanes of each row's accumulator are added one after another; the sixteen sums are put, one lane each, into a vector;
the bias is added and the logistic function taken. -/

noncomputable section

namespace Cert.Proof.Score

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- One lane of a vector. -/
def lane (v : FVec F S16 .f32) (n : ℕ) (h : S16.Slices ![n] S1) : F .f32 := extractAt ![0] (extractStridedSlice S1 ![n] v h) inpos_S1_p0

/-- The sum of a vector's lanes, from the first. -/
def laneSum (v : FVec F S16 .f32) : F .f32 :=
  Scalar.addf (Scalar.addf (Scalar.addf (Scalar.addf (Scalar.addf (Scalar.addf (Scalar.addf (Scalar.addf (Scalar.addf (Scalar.addf (Scalar.addf (Scalar.addf (Scalar.addf (Scalar.addf (Scalar.addf (lane v 0 slices_S16_o0_S1) (lane v 1 slices_S16_o1_S1)) (lane v 2 slices_S16_o2_S1))
    (lane v 3 slices_S16_o3_S1)) (lane v 4 slices_S16_o4_S1)) (lane v 5 slices_S16_o5_S1))
    (lane v 6 slices_S16_o6_S1)) (lane v 7 slices_S16_o7_S1)) (lane v 8 slices_S16_o8_S1))
    (lane v 9 slices_S16_o9_S1)) (lane v 10 slices_S16_o10_S1)) (lane v 11 slices_S16_o11_S1))
    (lane v 12 slices_S16_o12_S1)) (lane v 13 slices_S16_o13_S1)) (lane v 14 slices_S16_o14_S1))
    (lane v 15 slices_S16_o15_S1)

/-- The lanes' numbers. -/
def laneIds : IVec S16 32 := iota .scVector S16 32 [0] iota_S16_d0_w32_scVector

/-- A vector with `s` put at the lane numbered `n`. -/
def put (n : BitVec 32) (s : F .f32) (v : FVec F S16 .f32) : FVec F S16 .f32 :=
  select (cmpi .eq laneIds (broadcast S16 n)) (broadcast S16 s) v

/-- Zeros. -/
def zeroV : FVec F S16 .f32 := broadcast S16 (Scalar.ofBits .f32 0x00000000#32)

/-- The sixteen rows' sums, one to a lane. -/
def putAll (C : Fin 16 → FVec F S16 .f32) : FVec F S16 .f32 :=
  put 15#32 (laneSum (C 15)) (put 14#32 (laneSum (C 14)) (put 13#32 (laneSum (C 13)) (put 12#32 (laneSum (C 12))
    (put 11#32 (laneSum (C 11)) (put 10#32 (laneSum (C 10)) (put 9#32 (laneSum (C 9)) (put 8#32 (laneSum (C 8))
    (put 7#32 (laneSum (C 7)) (put 6#32 (laneSum (C 6)) (put 5#32 (laneSum (C 5)) (put 4#32 (laneSum (C 4))
    (put 3#32 (laneSum (C 3)) (put 2#32 (laneSum (C 2)) (put 1#32 (laneSum (C 1)) (put 0#32 (laneSum (C 0))
    (zeroV))))))))))))))))

/-- A chunk's outputs: the logistic function of the rows' sums plus the bias. -/
def chunkOut (C : Fin 16 → FVec F S16 .f32) (b : Vec F S16 .f32) : FVec F S16 .f32 :=
  divf (broadcast S16 (Scalar.ofBits .f32 0x3F800000#32))
    (addf (broadcast S16 (Scalar.ofBits .f32 0x3F800000#32)) (exp (subf (broadcast S16 (Scalar.ofBits .f32 0x00000000#32)) (addf (putAll C) b))))

theorem put_apply (n : ℕ) (hn : n < 16) (s : F .f32) (v : FVec F S16 .f32) (x : S16.Idx) : put (BitVec.ofNat 32 n) s v x = if (x 0).val = n then s else v x := by
  have hx : (x 0).val < 16 := (x 0).isLt
  show Scalar.select (Scalar.cmpi .eq (laneIds x) (BitVec.ofNat 32 n)) s (v x) = _
  rw [show laneIds x = BitVec.ofNat 32 (x 0).val from iota_single_apply _ _ _ _ _ _]
  by_cases h : (x 0).val = n
  · subst h; simp [Scalar.select, Scalar.cmpi, IntOp.cmpi]
  · rw [if_neg h]
    have : (BitVec.ofNat 32 (x 0).val == BitVec.ofNat 32 n) = false := by
      rw [beq_eq_false_iff_ne]
      intro e
      have := congrArg BitVec.toNat e
      simp only [BitVec.toNat_ofNat] at this
      omega
    simp [Scalar.select, Scalar.cmpi, IntOp.cmpi, this]

/-- Lane `l` holds row `l`'s sum. -/
theorem putAll_apply (C : Fin 16 → FVec F S16 .f32) (l : Fin 16) : putAll C (ix1 l) = laneSum (C l) := by
  unfold putAll
  have e : ∀ (n : ℕ) (hn : n < 16) (s : F .f32) (v : FVec F S16 .f32), put (BitVec.ofNat 32 n) s v (ix1 l) = if l.val = n then s else v (ix1 l) :=
    fun n hn s v => put_apply n hn s v (ix1 l)
  rw [e 15 (by omega), e 14 (by omega), e 13 (by omega), e 12 (by omega), e 11 (by omega), e 10 (by omega), e 9 (by omega), e 8 (by omega), e 7 (by omega), e 6 (by omega), e 5 (by omega), e 4 (by omega), e 3 (by omega), e 2 (by omega), e 1 (by omega), e 0 (by omega)]
  fin_cases l <;> rfl

section Out

variable (e : S16384x512.Idx → F .f32) (h c : S16384x1024.Idx → F .f32) (wx : S512.Idx → F .f32) (wh wc : S1024.Idx → F .f32) (b : S16.Idx → F .f32)

/-- Row `r`'s sixteen lane accumulators after all three arrays. -/
def rowAcc (r : Fin 16384) : FVec F S16 .f32 :=
  accC (n := 1024) 64 rfl wc c r (accC (n := 1024) 64 rfl wh h r (accC (n := 512) 32 rfl wx e r zeroV))

/-- Row `r`'s output, with the bias that its lane holds. -/
def outRow (r : Fin 16384) (l : Fin 16) : F .f32 :=
  FloatOps.divf (Scalar.ofBits .f32 0x3F800000#32) (FloatOps.addf (Scalar.ofBits .f32 0x3F800000#32)
    (FloatOps.exp (FloatOps.subf (Scalar.ofBits .f32 0x00000000#32) (FloatOps.addf (laneSum (rowAcc e h c wx wh wc r)) (b (ix1 l))))))

/-- What the vector subcores write: row `r`'s output at `r`. -/
def scOut : S1024.Idx → F .f32 := fun x =>
  outRow e h c wx wh wc b ⟨(x 0).val, by have : (x 0).val < 1024 := (x 0).isLt; omega⟩ ⟨(x 0).val % 16, Nat.mod_lt _ (by decide)⟩

/-- The accumulators of eight rows after the three loops. -/
theorem rows_acc {N1 N2 N3 : ℕ} {h1 : 16 * N1 = 512} {h2 : 16 * N2 = 1024} {h3 : 16 * N3 = 1024} (row : Fin 8 → Fin 16384) (x y z : Fin 8 → FVec F S16 .f32)
    (hx : ∀ j, x j = accN (colW h1 wx) (colR h1 e (row j)) zeroV N1) (hy : ∀ j, y j = accN (colW h2 wh) (colR h2 h (row j)) (x j) N2)
    (hz : ∀ j, z j = accN (colW h3 wc) (colR h3 c (row j)) (y j) N3) (j : Fin 8) : z j = rowAcc e h c wx wh wc (row j) := by
  rw [hz, hy, hx]
  obtain rfl : N1 = 32 := by omega
  obtain rfl : N2 = 64 := by omega
  obtain rfl : N3 = 64 := by omega
  rfl

/-- A chunk's outputs at lane `l`. -/
theorem chunkOut_apply (C : Fin 16 → FVec F S16 .f32) (row : Fin 16 → Fin 16384) (hC : ∀ l, C l = rowAcc e h c wx wh wc (row l)) (l : Fin 16) :
    chunkOut C b (ix1 l) = outRow e h c wx wh wc b (row l) l := by
  unfold outRow
  rw [← hC, ← putAll_apply]
  rfl

end Out

/-- Eight accumulators one by one. -/
theorem tup8_get {c0 c1 c2 c3 c4 c5 c6 c7 : FVec F S16 .f32} {f : Fin 8 → FVec F S16 .f32} (h : (c0, c1, c2, c3, c4, c5, c6, c7) = tup8 f) (j : Fin 8) : ![c0, c1, c2, c3, c4, c5, c6, c7] j = f j := by
  simp only [tup8, Prod.mk.injEq] at h
  obtain ⟨rfl, rfl, rfl, rfl, rfl, rfl, rfl, rfl⟩ := h
  fin_cases j <;> rfl

/-- Two halves of a chunk's rows. -/
theorem halves {a0 a1 a2 a3 a4 a5 a6 a7 b0 b1 b2 b3 b4 b5 b6 b7 : FVec F S16 .f32} {f : Fin 16 → FVec F S16 .f32}
    (ha : ∀ j : Fin 8, ![a0, a1, a2, a3, a4, a5, a6, a7] j = f (rowsFrom 0 (by decide) j)) (hb : ∀ j : Fin 8, ![b0, b1, b2, b3, b4, b5, b6, b7] j = f (rowsFrom 8 (by decide) j)) (l : Fin 16) :
    ![a0, a1, a2, a3, a4, a5, a6, a7, b0, b1, b2, b3, b4, b5, b6, b7] l = f l := by
  fin_cases l
  exacts [ha 0, ha 1, ha 2, ha 3, ha 4, ha 5, ha 6, ha 7, hb 0, hb 1, hb 2, hb 3, hb 4, hb 5, hb 6, hb 7]

/-- A row of the outputs' scratch, after the store of that row, read through its window. -/
theorem obuf_read (off : Fin 2 → ℕ) (inb : ∀ a, off a + S1x16.size a ≤ S2x16.size a) (g : (oB).view.ty.Contents (Elt F)) (v : FVec F S16 .f32)
    (l : List (View.Piece (Elt F) S2x16 .f32)) :
    (((oB).slice (Rect.unit (s := S2x16) off S1x16.size inb) (fun _ => rfl)).squeeze S16 squeezes_S1x16_S16).view.read (Elt F)
      ((oB).view.writes (Elt F) g (⟨Rect.unit (s := S2x16) off S1x16.size inb, shapeCast S1x16 v shapeCasts_S16_S1x16⟩ :: l)) = v := by
  rw [Memref.read_squeeze_slice _ _ _ _ squeezes_S1x16_S16.numel_eq]
  refine Eq.trans ?_ (shapeCast_shapeCast v shapeCasts_S16_S1x16 squeezes_S1x16_S16.numel_eq)
  congr 1
  funext y
  exact View.read_writes_cons_emb (oB).view g (Rect.unit (s := S2x16) off S1x16.size inb) _ l y

/-- The bias's scratch read whole. -/
theorem bias_read (g : (bB).view.ty.Contents (Elt F)) (v : S16.Idx → Elt F .f32) :
    (bB).view.readAt (Elt F) (Rect.unit (s := S16) ![0] S16.size inb_S16_S16_0).toLoadRect ((bB).view.write (Elt F) g (ReadAs.same.apply v) Finset.univ) = v := by
  have h := View.read_write_univ (v := (bB).view) g v
  refine Eq.trans ?_ h
  funext y
  show (bB).view.read (Elt F) _ _ = (bB).view.read (Elt F) _ _
  congr 1
  funext a
  match a with
  | ⟨0, _⟩ => exact Fin.ext (by show 0 + 1 * (y 0).val = (y 0).val; omega)

end Cert.Proof.Score
-- ==== Proof.Tile.lean ====
module

public import proofs.«01_k».proof.Proof.Lanes

@[expose] public section

noncomputable section

namespace Cert.Proof.Score

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

abbrev eW0 (L : grid1.Coords) : Memref sig .scVector .hbm S16x512 .f32 :=
  (eA).slice (Rect.unit (s := S16384x512) (k1_off1 L 0#32) S16x512.size (k1_off1_inb L 0)) (fun _ => rfl)
abbrev eW1 (L : grid1.Coords) : Memref sig .scVector .hbm S16x512 .f32 :=
  (eA).slice (Rect.unit (s := S16384x512) (k1_off1 L 16#32) S16x512.size (k1_off1_inb L 1)) (fun _ => rfl)
abbrev hW0 (L : grid1.Coords) : Memref sig .scVector .hbm S16x1024 .f32 :=
  (hA).slice (Rect.unit (s := S16384x1024) (k1_off2 L 0#32) S16x1024.size (k1_off2_inb L 0)) (fun _ => rfl)
abbrev hW1 (L : grid1.Coords) : Memref sig .scVector .hbm S16x1024 .f32 :=
  (hA).slice (Rect.unit (s := S16384x1024) (k1_off2 L 16#32) S16x1024.size (k1_off2_inb L 1)) (fun _ => rfl)
abbrev cW0 (L : grid1.Coords) : Memref sig .scVector .hbm S16x1024 .f32 :=
  (cA).slice (Rect.unit (s := S16384x1024) (k1_off2 L 0#32) S16x1024.size (k1_off2_inb L 0)) (fun _ => rfl)
abbrev cW1 (L : grid1.Coords) : Memref sig .scVector .hbm S16x1024 .f32 :=
  (cA).slice (Rect.unit (s := S16384x1024) (k1_off2 L 16#32) S16x1024.size (k1_off2_inb L 1)) (fun _ => rfl)
abbrev oW0 (L : grid1.Coords) : Memref sig .scVector .hbm S16 .f32 :=
  (oA).slice (Rect.unit (s := S1024) (k1_off61 L 0#32) S16.size (k1_off61_inb L 0)) (fun _ => rfl)
abbrev oW1 (L : grid1.Coords) : Memref sig .scVector .hbm S16 .f32 :=
  (oA).slice (Rect.unit (s := S1024) (k1_off61 L 1#32) S16.size (k1_off61_inb L 1)) (fun _ => rfl)
abbrev eS0 : Memref sig .scVector .vmem S16x512 .f32 :=
  ((eB).slice (Rect.unit (s := S2x16x512) ![0, 0, 0] S1x16x512.size inb_S2x16x512_S1x16x512_0_0_0) (fun _ => rfl)).squeeze S16x512 squeezes_S1x16x512_S16x512
abbrev eS1 : Memref sig .scVector .vmem S16x512 .f32 :=
  ((eB).slice (Rect.unit (s := S2x16x512) ![1, 0, 0] S1x16x512.size inb_S2x16x512_S1x16x512_1_0_0) (fun _ => rfl)).squeeze S16x512 squeezes_S1x16x512_S16x512
abbrev hS0 : Memref sig .scVector .vmem S16x1024 .f32 :=
  ((hB).slice (Rect.unit (s := S2x16x1024) ![0, 0, 0] S1x16x1024.size inb_S2x16x1024_S1x16x1024_0_0_0) (fun _ => rfl)).squeeze S16x1024 squeezes_S1x16x1024_S16x1024
abbrev hS1 : Memref sig .scVector .vmem S16x1024 .f32 :=
  ((hB).slice (Rect.unit (s := S2x16x1024) ![1, 0, 0] S1x16x1024.size inb_S2x16x1024_S1x16x1024_1_0_0) (fun _ => rfl)).squeeze S16x1024 squeezes_S1x16x1024_S16x1024
abbrev cS0 : Memref sig .scVector .vmem S16x1024 .f32 :=
  ((cB).slice (Rect.unit (s := S2x16x1024) ![0, 0, 0] S1x16x1024.size inb_S2x16x1024_S1x16x1024_0_0_0) (fun _ => rfl)).squeeze S16x1024 squeezes_S1x16x1024_S16x1024
abbrev cS1 : Memref sig .scVector .vmem S16x1024 .f32 :=
  ((cB).slice (Rect.unit (s := S2x16x1024) ![1, 0, 0] S1x16x1024.size inb_S2x16x1024_S1x16x1024_1_0_0) (fun _ => rfl)).squeeze S16x1024 squeezes_S1x16x1024_S16x1024

variable (d : Dev nD) (L : grid1.Coords)

abbrev heldW {sp : Space} {s : Shape} {e : EltTy} (m : Memref sig .scVector sp s e) (q : PosShare TreeShare) (f : Buf (Elt F) (m.view.loc (V d (cV L) (jV L)))) : sProp 𝕄 :=
  (m.view.loc (V d (cV L) (jV L)) ↦[m.view.set]{q} f)

/-- A chunk of the outputs that the copy of a row of the outputs' scratch has filled. -/
theorem out_landed (e : S16384x512.Idx → F .f32) (h c : S16384x1024.Idx → F .f32) (wx : S512.Idx → F .f32) (wh wc : S1024.Idx → F .f32) (b : S16.Idx → F .f32)
    (off : Fin 1 → ℕ) (inb : ∀ a, off a + S16.size a ≤ S1024.size a) (g : Fin 2) (hoff : off = ![64 * (L 1).val + 32 * (L 0).val + 16 * g.val])
    (g0 : Buf (Elt F) (((oA).slice (Rect.unit (s := S1024) off S16.size inb) (fun _ => rfl)).view.loc (V d (cV L) (jV L)))) (v : S16.Idx → Elt F .f32)
    (C : Fin 16 → FVec F S16 .f32) (hC : ∀ l, C l = rowAcc e h c wx wh wc (rowOf L g l)) (hv : v = chunkOut C b) :
    (((oA).slice (Rect.unit (s := S1024) off S16.size inb) (fun _ => rfl)).view.loc (V d (cV L) (jV L))
        ↦[((oA).slice (Rect.unit (s := S1024) off S16.size inb) (fun _ => rfl)).view.set]{fullShare}
          ((oA).slice (Rect.unit (s := S1024) off S16.size inb) (fun _ => rfl)).view.writes (Elt F) g0 [⟨Rect.whole S16, v⟩] : sProp 𝕄)
      ⊢ (((oA).slice (Rect.unit (s := S1024) off S16.size inb) (fun _ => rfl)).view.loc (V d (cV L) (jV L))
        ↦[((oA).slice (Rect.unit (s := S1024) off S16.size inb) (fun _ => rfl)).view.set]{fullShare} scOut (F := F) e h c wx wh wc b) := by
  subst hoff hv
  refine Entails.of_eq (pointsTo_congr ?_)
  intro i hi
  obtain ⟨y, -, rfl⟩ := Finset.mem_map.1 hi
  have hy : (y 0).val < 16 := (y 0).isLt
  have hw := congrFun (View.read_writes_whole ((oA).slice (Rect.unit (s := S1024) _ S16.size inb) (fun _ => rfl)).view g0 (chunkOut C b)) y
  refine Eq.trans hw ?_
  have ey : y = ix1 ⟨(y 0).val, hy⟩ := by
    funext a
    match a with
    | ⟨0, _⟩ => rfl
  rw [ey, chunkOut_apply e h c wx wh wc b C (rowOf L g) hC, ← ey]
  unfold scOut
  have e0 : ((((oA).slice (Rect.unit (s := S1024) ![64 * (L 1).val + 32 * (L 0).val + 16 * g.val] S16.size inb) (fun _ => rfl)).view.emb y : S1024.Idx) 0).val
      = 64 * (L 1).val + 32 * (L 0).val + 16 * g.val + (y 0).val := by
    show _ + 1 * (y 0).val = _
    rw [Nat.one_mul]; rfl
  congr 1
  · exact Fin.ext e0.symm
  · refine Fin.ext ?_
    show (y 0).val = _ % 16
    rw [e0]; omega

theorem sHeld_some {m n : ℕ} (sM : Memref sig .scVector .vmem ⟨2, ![16, n]⟩ .f32) (A : (⟨2, ![m, n]⟩ : Shape).Idx → F .f32) (row : Fin 16 → Fin m) :
    (sHeld d L sM A row : sProp 𝕄) ⊢ iprop(∃ f, sM.view.loc (V d (cV L) (jV L)) ↦[sM.view.set]{fullShare} f) := by
  unfold sHeld
  iintro ⟨%f, H, %_⟩
  iexists f
  iexact H

theorem wHeld_some {n : ℕ} (wM : Memref sig .scVector .vmem ⟨1, ![n]⟩ .f32) (B : (⟨1, ![n]⟩ : Shape).Idx → F .f32) :
    (wHeld d L wM B : sProp 𝕄) ⊢ iprop(∃ f, wM.view.loc (V d (cV L) (jV L)) ↦{fullShare} f) := by
  unfold wHeld
  iintro ⟨%f, H, %_⟩
  iexists f
  iexact H

set_option maxHeartbeats 4000000 in
theorem tile_run [∀ e, Nonempty (Elt F e)] (q : PosShare TreeShare)
    (fe0 : Buf (Elt F) ((eW0 L).view.loc (V d (cV L) (jV L)))) (fh0 : Buf (Elt F) ((hW0 L).view.loc (V d (cV L) (jV L)))) (fc0 : Buf (Elt F) ((cW0 L).view.loc (V d (cV L) (jV L))))
    (fx : Buf (Elt F) ((wxA).view.loc (V d (cV L) (jV L)))) (fwh : Buf (Elt F) ((whA).view.loc (V d (cV L) (jV L)))) (fwc : Buf (Elt F) ((wcA).view.loc (V d (cV L) (jV L))))
    (fb : Buf (Elt F) ((bA).view.loc (V d (cV L) (jV L)))) (fo0 : Buf (Elt F) ((oW0 L).view.loc (V d (cV L) (jV L))))
    (ge0 : Buf (Elt F) ((eS0).view.loc (V d (cV L) (jV L)))) (gh0 : Buf (Elt F) ((hS0).view.loc (V d (cV L) (jV L)))) (gc0 : Buf (Elt F) ((cS0).view.loc (V d (cV L) (jV L))))
    (gx : Buf (Elt F) ((wxB).view.loc (V d (cV L) (jV L)))) (gwh : Buf (Elt F) ((whB).view.loc (V d (cV L) (jV L)))) (gwc : Buf (Elt F) ((wcB).view.loc (V d (cV L) (jV L))))
    (gb : Buf (Elt F) ((bB).view.loc (V d (cV L) (jV L)))) (go : Buf (Elt F) ((oB).view.loc (V d (cV L) (jV L))))
    (O : CellTallies nD τ sig (HIx 1)) (W : Waits sig (HIx 1))
    (_p0 : Transfers.BatchOf (V d (cV L) (jV L)) (SemLoc.dma (sig := sig) (cc1_scratch8).sem) 2)
    (_p1 : Transfers.BatchOf (V d (cV L) (jV L)) (SemLoc.dma (sig := sig) (cc1_scratch9).sem) 2) :
    iprop(Transfers.MayWaits (V d (cV L) (jV L)) (none : HIx 1) O
        ∗ heldW d L (eW0 L) q fe0 ∗ heldW d L (eW1 L) q fe0 ∗ heldW d L (hW0 L) q fh0 ∗ heldW d L (hW1 L) q fh0 ∗ heldW d L (cW0 L) q fc0 ∗ heldW d L (cW1 L) q fc0
        ∗ heldW d L wxA q fx ∗ heldW d L whA q fwh ∗ heldW d L wcA q fwc ∗ heldW d L bA q fb ∗ heldW d L (oW0 L) fullShare fo0 ∗ heldW d L (oW1 L) fullShare fo0
        ∗ heldW d L eS0 fullShare ge0 ∗ heldW d L eS1 fullShare ge0 ∗ heldW d L hS0 fullShare gh0 ∗ heldW d L hS1 fullShare gh0 ∗ heldW d L cS0 fullShare gc0 ∗ heldW d L cS1 fullShare gc0
        ∗ ((wxB).view.loc (V d (cV L) (jV L)) ↦{fullShare} gx) ∗ ((whB).view.loc (V d (cV L) (jV L)) ↦{fullShare} gwh)
        ∗ ((wcB).view.loc (V d (cV L) (jV L)) ↦{fullShare} gwc) ∗ ((bB).view.loc (V d (cV L) (jV L)) ↦{fullShare} gb) ∗ ((oB).view.loc (V d (cV L) (jV L)) ↦{fullShare} go)
        ∗ semVal ((V d (cV L) (jV L)), SemLoc.dma (cc1_scratch8).sem) 0 ∗ semVal ((V d (cV L) (jV L)), SemLoc.dma (cc1_scratch9).sem) 0
        ∗ semVal ((V d (cV L) (jV L)), SemLoc.dma (cc1_scratch10).sem) 0 ∗ semVal ((V d (cV L) (jV L)), SemLoc.dma (cc1_scratch11).sem) 0
        ∗ semVal ((V d (cV L) (jV L)), SemLoc.dma (cc1_scoped0).sem) 0 ∗ semVal ((V d (cV L) (jV L)), SemLoc.dma (cc1_scoped1).sem) 0
        ∗ semVal ((V d (cV L) (jV L)), SemLoc.dma (cc1_scoped2).sem) 0 ∗ semVal ((V d (cV L) (jV L)), SemLoc.dma (cc1_scoped3).sem) 0
        ∗ semVal ((V d (cV L) (jV L)), SemLoc.dma (cc1_scoped4).sem) 0 ∗ semVal ((V d (cV L) (jV L)), SemLoc.dma (cc1_scoped5).sem) 0
        ∗ owes (V d (cV L) (jV L)) O W)
      ⊢ wp frame (wpE (defs₀ (F := F)) 𝒱₀ (V d (cV L) (jV L)) none) Set.univ
          (cc1__sc_body L eA (Memref.isWhole_whole _) hA (Memref.isWhole_whole _) cA (Memref.isWhole_whole _) wxA (Memref.isWhole_whole _)
            whA (Memref.isWhole_whole _) wcA (Memref.isWhole_whole _) bA (Memref.isWhole_whole _) oA (Memref.isWhole_whole _)
            eB (Memref.isWhole_whole _) hB (Memref.isWhole_whole _) cB (Memref.isWhole_whole _) wxB (Memref.isWhole_whole _)
            whB (Memref.isWhole_whole _) wcB (Memref.isWhole_whole _) bB (Memref.isWhole_whole _) oB (Memref.isWhole_whole _)
            cc1_scratch8 cc1_scratch9 cc1_scratch10 cc1_scratch11 cc1_scoped0 cc1_scoped1 cc1_scoped2 cc1_scoped3 cc1_scoped4 cc1_scoped5)
          fun _ => iprop(heldW d L (eW0 L) q fe0 ∗ heldW d L (eW1 L) q fe0 ∗ heldW d L (hW0 L) q fh0 ∗ heldW d L (hW1 L) q fh0 ∗ heldW d L (cW0 L) q fc0 ∗ heldW d L (cW1 L) q fc0
        ∗ heldW d L wxA q fx ∗ heldW d L whA q fwh ∗ heldW d L wcA q fwc ∗ heldW d L bA q fb ∗ heldW d L (oW0 L) fullShare (scOut (F := F) fe0 fh0 fc0 fx fwh fwc fb) ∗ heldW d L (oW1 L) fullShare (scOut (F := F) fe0 fh0 fc0 fx fwh fwc fb)
        ∗ (∃ f, heldW d L eS0 fullShare f) ∗ (∃ f, heldW d L eS1 fullShare f) ∗ (∃ f, heldW d L hS0 fullShare f) ∗ (∃ f, heldW d L hS1 fullShare f) ∗ (∃ f, heldW d L cS0 fullShare f) ∗ (∃ f, heldW d L cS1 fullShare f)
        ∗ (∃ f, (wxB).view.loc (V d (cV L) (jV L)) ↦{fullShare} f) ∗ (∃ f, (whB).view.loc (V d (cV L) (jV L)) ↦{fullShare} f)
        ∗ (∃ f, (wcB).view.loc (V d (cV L) (jV L)) ↦{fullShare} f) ∗ (∃ f, (bB).view.loc (V d (cV L) (jV L)) ↦{fullShare} f) ∗ (∃ f, (oB).view.loc (V d (cV L) (jV L)) ↦{fullShare} f)
        ∗ semVal ((V d (cV L) (jV L)), SemLoc.dma (cc1_scratch8).sem) 0 ∗ semVal ((V d (cV L) (jV L)), SemLoc.dma (cc1_scratch9).sem) 0
        ∗ semVal ((V d (cV L) (jV L)), SemLoc.dma (cc1_scratch10).sem) 0 ∗ semVal ((V d (cV L) (jV L)), SemLoc.dma (cc1_scratch11).sem) 0
        ∗ semVal ((V d (cV L) (jV L)), SemLoc.dma (cc1_scoped0).sem) 0 ∗ semVal ((V d (cV L) (jV L)), SemLoc.dma (cc1_scoped1).sem) 0
        ∗ semVal ((V d (cV L) (jV L)), SemLoc.dma (cc1_scoped2).sem) 0 ∗ semVal ((V d (cV L) (jV L)), SemLoc.dma (cc1_scoped3).sem) 0
        ∗ semVal ((V d (cV L) (jV L)), SemLoc.dma (cc1_scoped4).sem) 0 ∗ semVal ((V d (cV L) (jV L)), SemLoc.dma (cc1_scoped5).sem) 0
        ∗ ∃ W', ⌜∀ p ∈ W', p ∈ W ∨ p.2 = none⌝ ∗ owes (V d (cV L) (jV L)) O W') := by
  iintro ⟨Hmw, He0, He1, Hh0, Hh1, Hc0, Hc1, Hwx, Hwh, Hwc, Hb, Ho0, Ho1, Hse0, Hse1, Hsh0, Hsh1, Hsc0, Hsc1, Hswx, Hswh, Hswc, Hsb, Hso, Hq8, Hq9, Hq10, Hq11, Hr0, Hr1, Hr2, Hr3, Hr4, Hr5, HO⟩
  rw [cc1__sc_body_eq_skeleton]; unfold cc1__sc_body_skel
  sl_exec
  unfold tile_run.sl.dma0 tile_run.sl.dma0_1 tile_run.sl.dma0_2 tile_run.sl.dma0_4 tile_run.sl.dma5 tile_run.sl.dma6
  ihave Hswx := (wHeld_landed d L wxB gx (wxA.view.read (Elt F) fx)) $$ Hswx
  ihave Hswh := (wHeld_landed d L whB gwh (whA.view.read (Elt F) fwh)) $$ Hswh
  ihave Hswc := (wHeld_landed d L wcB gwc (wcA.view.read (Elt F) fwc)) $$ Hswc
  ihave Hse0 := (sHeld_landed d L eS0 _ eA fe0 _ (k1_off1_inb L 0) 0 (k1_off1_eq L 0)) $$ Hse0
  ihave Hsh0 := (sHeld_landed d L hS0 _ hA fh0 _ (k1_off2_inb L 0) 0 (k1_off2_eq L 0)) $$ Hsh0
  ihave Hsc0 := (sHeld_landed d L cS0 _ cA fc0 _ (k1_off2_inb L 0) 0 (k1_off2_eq L 0)) $$ Hsc0
  sl_for (invS d L (N := k1_t1_loop.trips) (by decide) wxB eS0 (wxA.view.read (Elt F) fx) (eA.view.read (Elt F) fe0) (rowOf L 0) (rowsFrom 0 (by decide)) (fun _ => k1_pay62)) $$ [Hswx Hse0]
  case region =>
    intro k acc
    exact invS_step d L (by decide) wxB eB (oW := k1_off5) (hoW := k1_off5_inb) (oB := ![k1_off6, k1_off7, k1_off8, k1_off9, k1_off10, k1_off11, k1_off12, k1_off13])
      (hoB := by intro j; fin_cases j; exacts [k1_off6_inb, k1_off7_inb, k1_off8_inb, k1_off9_inb, k1_off10_inb, k1_off11_inb, k1_off12_inb, k1_off13_inb])
      0 0 (by decide) inb_S2x16x512_S1x16x512_0_0_0 squeezes_S1x16x512_S16x512 k1_off5_eq
      (by intro j; fin_cases j; exacts [k1_off6_eq, k1_off7_eq, k1_off8_eq, k1_off9_eq, k1_off10_eq, k1_off11_eq, k1_off12_eq, k1_off13_eq])
      _ _ _ _ k acc
  · unfold invS
    isplitl [Hswx]; · iexact Hswx
    isplitl [Hse0]; · iexact Hse0
    ipureintro; rfl
  iintro %acc HI
  unfold invS
  icases HI with ⟨Hswx, Hse0, %hacc1⟩
  obtain ⟨xa0, xa1, xa2, xa3, xa4, xa5, xa6, xa7⟩ := acc
  sl_exec
  sl_for (invS d L (N := k1_t2_loop.trips) (by decide) whB hS0 (whA.view.read (Elt F) fwh) (hA.view.read (Elt F) fh0) (rowOf L 0) (rowsFrom 0 (by decide)) ![xa0, xa1, xa2, xa3, xa4, xa5, xa6, xa7]) $$ [Hswh Hsh0]
  case region =>
    intro k acc
    exact invS_step d L (by decide) whB hB (oW := k1_off14) (hoW := k1_off14_inb) (oB := ![k1_off15, k1_off16, k1_off17, k1_off18, k1_off19, k1_off20, k1_off21, k1_off22])
      (hoB := by intro j; fin_cases j; exacts [k1_off15_inb, k1_off16_inb, k1_off17_inb, k1_off18_inb, k1_off19_inb, k1_off20_inb, k1_off21_inb, k1_off22_inb])
      0 0 (by decide) inb_S2x16x1024_S1x16x1024_0_0_0 squeezes_S1x16x1024_S16x1024 k1_off14_eq
      (by intro j; fin_cases j; exacts [k1_off15_eq, k1_off16_eq, k1_off17_eq, k1_off18_eq, k1_off19_eq, k1_off20_eq, k1_off21_eq, k1_off22_eq])
      _ _ _ _ k acc
  · unfold invS
    isplitl [Hswh]; · iexact Hswh
    isplitl [Hsh0]; · iexact Hsh0
    ipureintro; rfl
  iintro %acc HI
  unfold invS
  icases HI with ⟨Hswh, Hsh0, %hacc2⟩
  obtain ⟨ya0, ya1, ya2, ya3, ya4, ya5, ya6, ya7⟩ := acc
  sl_exec
  sl_for (invS d L (N := k1_t3_loop.trips) (by decide) wcB cS0 (wcA.view.read (Elt F) fwc) (cA.view.read (Elt F) fc0) (rowOf L 0) (rowsFrom 0 (by decide)) ![ya0, ya1, ya2, ya3, ya4, ya5, ya6, ya7]) $$ [Hswc Hsc0]
  case region =>
    intro k acc
    exact invS_step d L (by decide) wcB cB (oW := k1_off23) (hoW := k1_off23_inb) (oB := ![k1_off24, k1_off25, k1_off26, k1_off27, k1_off28, k1_off29, k1_off30, k1_off31])
      (hoB := by intro j; fin_cases j; exacts [k1_off24_inb, k1_off25_inb, k1_off26_inb, k1_off27_inb, k1_off28_inb, k1_off29_inb, k1_off30_inb, k1_off31_inb])
      0 0 (by decide) inb_S2x16x1024_S1x16x1024_0_0_0 squeezes_S1x16x1024_S16x1024 k1_off23_eq
      (by intro j; fin_cases j; exacts [k1_off24_eq, k1_off25_eq, k1_off26_eq, k1_off27_eq, k1_off28_eq, k1_off29_eq, k1_off30_eq, k1_off31_eq])
      _ _ _ _ k acc
  · unfold invS
    isplitl [Hswc]; · iexact Hswc
    isplitl [Hsc0]; · iexact Hsc0
    ipureintro; rfl
  iintro %acc HI
  unfold invS
  icases HI with ⟨Hswc, Hsc0, %hacc3⟩
  obtain ⟨a0, a1, a2, a3, a4, a5, a6, a7⟩ := acc
  sl_exec
  sl_for (invS d L (N := k1_t4_loop.trips) (by decide) wxB eS0 (wxA.view.read (Elt F) fx) (eA.view.read (Elt F) fe0) (rowOf L 0) (rowsFrom 8 (by decide)) (fun _ => k1_pay62)) $$ [Hswx Hse0]
  case region =>
    intro k acc
    exact invS_step d L (by decide) wxB eB (oW := k1_off32) (hoW := k1_off32_inb) (oB := ![k1_off33, k1_off34, k1_off35, k1_off36, k1_off37, k1_off38, k1_off39, k1_off40])
      (hoB := by intro j; fin_cases j; exacts [k1_off33_inb, k1_off34_inb, k1_off35_inb, k1_off36_inb, k1_off37_inb, k1_off38_inb, k1_off39_inb, k1_off40_inb])
      0 8 (by decide) inb_S2x16x512_S1x16x512_0_0_0 squeezes_S1x16x512_S16x512 k1_off32_eq
      (by intro j; fin_cases j; exacts [k1_off33_eq, k1_off34_eq, k1_off35_eq, k1_off36_eq, k1_off37_eq, k1_off38_eq, k1_off39_eq, k1_off40_eq])
      _ _ _ _ k acc
  · unfold invS
    isplitl [Hswx]; · iexact Hswx
    isplitl [Hse0]; · iexact Hse0
    ipureintro; rfl
  iintro %acc HI
  unfold invS
  icases HI with ⟨Hswx, Hse0, %hacc4⟩
  obtain ⟨xb0, xb1, xb2, xb3, xb4, xb5, xb6, xb7⟩ := acc
  sl_exec
  sl_for (invS d L (N := k1_t5_loop.trips) (by decide) whB hS0 (whA.view.read (Elt F) fwh) (hA.view.read (Elt F) fh0) (rowOf L 0) (rowsFrom 8 (by decide)) ![xb0, xb1, xb2, xb3, xb4, xb5, xb6, xb7]) $$ [Hswh Hsh0]
  case region =>
    intro k acc
    exact invS_step d L (by decide) whB hB (oW := k1_off41) (hoW := k1_off41_inb) (oB := ![k1_off42, k1_off43, k1_off44, k1_off45, k1_off46, k1_off47, k1_off48, k1_off49])
      (hoB := by intro j; fin_cases j; exacts [k1_off42_inb, k1_off43_inb, k1_off44_inb, k1_off45_inb, k1_off46_inb, k1_off47_inb, k1_off48_inb, k1_off49_inb])
      0 8 (by decide) inb_S2x16x1024_S1x16x1024_0_0_0 squeezes_S1x16x1024_S16x1024 k1_off41_eq
      (by intro j; fin_cases j; exacts [k1_off42_eq, k1_off43_eq, k1_off44_eq, k1_off45_eq, k1_off46_eq, k1_off47_eq, k1_off48_eq, k1_off49_eq])
      _ _ _ _ k acc
  · unfold invS
    isplitl [Hswh]; · iexact Hswh
    isplitl [Hsh0]; · iexact Hsh0
    ipureintro; rfl
  iintro %acc HI
  unfold invS
  icases HI with ⟨Hswh, Hsh0, %hacc5⟩
  obtain ⟨yb0, yb1, yb2, yb3, yb4, yb5, yb6, yb7⟩ := acc
  sl_exec
  sl_for (invS d L (N := k1_t6_loop.trips) (by decide) wcB cS0 (wcA.view.read (Elt F) fwc) (cA.view.read (Elt F) fc0) (rowOf L 0) (rowsFrom 8 (by decide)) ![yb0, yb1, yb2, yb3, yb4, yb5, yb6, yb7]) $$ [Hswc Hsc0]
  case region =>
    intro k acc
    exact invS_step d L (by decide) wcB cB (oW := k1_off50) (hoW := k1_off50_inb) (oB := ![k1_off51, k1_off52, k1_off53, k1_off54, k1_off55, k1_off56, k1_off57, k1_off58])
      (hoB := by intro j; fin_cases j; exacts [k1_off51_inb, k1_off52_inb, k1_off53_inb, k1_off54_inb, k1_off55_inb, k1_off56_inb, k1_off57_inb, k1_off58_inb])
      0 8 (by decide) inb_S2x16x1024_S1x16x1024_0_0_0 squeezes_S1x16x1024_S16x1024 k1_off50_eq
      (by intro j; fin_cases j; exacts [k1_off51_eq, k1_off52_eq, k1_off53_eq, k1_off54_eq, k1_off55_eq, k1_off56_eq, k1_off57_eq, k1_off58_eq])
      _ _ _ _ k acc
  · unfold invS
    isplitl [Hswc]; · iexact Hswc
    isplitl [Hsc0]; · iexact Hsc0
    ipureintro; rfl
  iintro %acc HI
  unfold invS
  icases HI with ⟨Hswc, Hsc0, %hacc6⟩
  obtain ⟨b0, b1, b2, b3, b4, b5, b6, b7⟩ := acc
  sl_exec
  unfold tile_run.sl.dma0_5 tile_run.sl.dma8 tile_run.sl.dma9
  ihave Hse1 := (sHeld_landed d L eS1 _ eA fe0 _ (k1_off1_inb L 1) 1 (k1_off1_eq L 1)) $$ Hse1
  ihave Hsh1 := (sHeld_landed d L hS1 _ hA fh0 _ (k1_off2_inb L 1) 1 (k1_off2_eq L 1)) $$ Hsh1
  ihave Hsc1 := (sHeld_landed d L cS1 _ cA fc0 _ (k1_off2_inb L 1) 1 (k1_off2_eq L 1)) $$ Hsc1
  have hC0 : ∀ l, ![a0, a1, a2, a3, a4, a5, a6, a7, b0, b1, b2, b3, b4, b5, b6, b7] l = rowAcc (F := F) fe0 fh0 fc0 fx fwh fwc (rowOf L 0 l) :=
    halves
      (fun j => rows_acc (F := F) fe0 fh0 fc0 fx fwh fwc (fun j => rowOf L 0 (rowsFrom 0 (by decide) j)) _ _ _ (tup8_get hacc1) (tup8_get hacc2) (tup8_get hacc3) j)
      (fun j => rows_acc (F := F) fe0 fh0 fc0 fx fwh fwc (fun j => rowOf L 0 (rowsFrom 8 (by decide) j)) _ _ _ (tup8_get hacc4) (tup8_get hacc5) (tup8_get hacc6) j)
  have hr0 : tile_run.sl.dma3 d L fb gb go a0 a1 a2 a3 a4 a5 a6 a7 b0 b1 b2 b3 b4 b5 b6 b7 = chunkOut ![a0, a1, a2, a3, a4, a5, a6, a7, b0, b1, b2, b3, b4, b5, b6, b7] fb := by
    unfold tile_run.sl.dma3 tile_run.sl.Hso_1
    refine (obuf_read _ _ _ _ _).trans ?_
    refine Eq.trans ?_ (congrArg (chunkOut ![a0, a1, a2, a3, a4, a5, a6, a7, b0, b1, b2, b3, b4, b5, b6, b7]) (bias_read gb fb))
    rfl
  ihave Ho0 := (out_landed d L fe0 fh0 fc0 fx fwh fwc fb (k1_off61 L 0#32) (k1_off61_inb L 0) 0 (k1_off61_eq L 0) _ _ _ hC0 hr0) $$ Ho0
  sl_for (invS d L (N := k1_t7_loop.trips) (by decide) wxB eS1 (wxA.view.read (Elt F) fx) (eA.view.read (Elt F) fe0) (rowOf L 1) (rowsFrom 0 (by decide)) (fun _ => k1_pay62)) $$ [Hswx Hse1]
  case region =>
    intro k acc
    exact invS_step d L (by decide) wxB eB (oW := k1_off62) (hoW := k1_off62_inb) (oB := ![k1_off63, k1_off64, k1_off65, k1_off66, k1_off67, k1_off68, k1_off69, k1_off70])
      (hoB := by intro j; fin_cases j; exacts [k1_off63_inb, k1_off64_inb, k1_off65_inb, k1_off66_inb, k1_off67_inb, k1_off68_inb, k1_off69_inb, k1_off70_inb])
      1 0 (by decide) inb_S2x16x512_S1x16x512_1_0_0 squeezes_S1x16x512_S16x512 k1_off62_eq
      (by intro j; fin_cases j; exacts [k1_off63_eq, k1_off64_eq, k1_off65_eq, k1_off66_eq, k1_off67_eq, k1_off68_eq, k1_off69_eq, k1_off70_eq])
      _ _ _ _ k acc
  · unfold invS
    isplitl [Hswx]; · iexact Hswx
    isplitl [Hse1]; · iexact Hse1
    ipureintro; rfl
  iintro %acc HI
  unfold invS
  icases HI with ⟨Hswx, Hse1, %hacc7⟩
  obtain ⟨xc0, xc1, xc2, xc3, xc4, xc5, xc6, xc7⟩ := acc
  sl_exec
  sl_for (invS d L (N := k1_t8_loop.trips) (by decide) whB hS1 (whA.view.read (Elt F) fwh) (hA.view.read (Elt F) fh0) (rowOf L 1) (rowsFrom 0 (by decide)) ![xc0, xc1, xc2, xc3, xc4, xc5, xc6, xc7]) $$ [Hswh Hsh1]
  case region =>
    intro k acc
    exact invS_step d L (by decide) whB hB (oW := k1_off71) (hoW := k1_off71_inb) (oB := ![k1_off72, k1_off73, k1_off74, k1_off75, k1_off76, k1_off77, k1_off78, k1_off79])
      (hoB := by intro j; fin_cases j; exacts [k1_off72_inb, k1_off73_inb, k1_off74_inb, k1_off75_inb, k1_off76_inb, k1_off77_inb, k1_off78_inb, k1_off79_inb])
      1 0 (by decide) inb_S2x16x1024_S1x16x1024_1_0_0 squeezes_S1x16x1024_S16x1024 k1_off71_eq
      (by intro j; fin_cases j; exacts [k1_off72_eq, k1_off73_eq, k1_off74_eq, k1_off75_eq, k1_off76_eq, k1_off77_eq, k1_off78_eq, k1_off79_eq])
      _ _ _ _ k acc
  · unfold invS
    isplitl [Hswh]; · iexact Hswh
    isplitl [Hsh1]; · iexact Hsh1
    ipureintro; rfl
  iintro %acc HI
  unfold invS
  icases HI with ⟨Hswh, Hsh1, %hacc8⟩
  obtain ⟨yc0, yc1, yc2, yc3, yc4, yc5, yc6, yc7⟩ := acc
  sl_exec
  sl_for (invS d L (N := k1_t9_loop.trips) (by decide) wcB cS1 (wcA.view.read (Elt F) fwc) (cA.view.read (Elt F) fc0) (rowOf L 1) (rowsFrom 0 (by decide)) ![yc0, yc1, yc2, yc3, yc4, yc5, yc6, yc7]) $$ [Hswc Hsc1]
  case region =>
    intro k acc
    exact invS_step d L (by decide) wcB cB (oW := k1_off80) (hoW := k1_off80_inb) (oB := ![k1_off81, k1_off82, k1_off83, k1_off84, k1_off85, k1_off86, k1_off87, k1_off88])
      (hoB := by intro j; fin_cases j; exacts [k1_off81_inb, k1_off82_inb, k1_off83_inb, k1_off84_inb, k1_off85_inb, k1_off86_inb, k1_off87_inb, k1_off88_inb])
      1 0 (by decide) inb_S2x16x1024_S1x16x1024_1_0_0 squeezes_S1x16x1024_S16x1024 k1_off80_eq
      (by intro j; fin_cases j; exacts [k1_off81_eq, k1_off82_eq, k1_off83_eq, k1_off84_eq, k1_off85_eq, k1_off86_eq, k1_off87_eq, k1_off88_eq])
      _ _ _ _ k acc
  · unfold invS
    isplitl [Hswc]; · iexact Hswc
    isplitl [Hsc1]; · iexact Hsc1
    ipureintro; rfl
  iintro %acc HI
  unfold invS
  icases HI with ⟨Hswc, Hsc1, %hacc9⟩
  obtain ⟨c0, c1, c2, c3, c4, c5, c6, c7⟩ := acc
  sl_exec
  sl_for (invS d L (N := k1_t10_loop.trips) (by decide) wxB eS1 (wxA.view.read (Elt F) fx) (eA.view.read (Elt F) fe0) (rowOf L 1) (rowsFrom 8 (by decide)) (fun _ => k1_pay62)) $$ [Hswx Hse1]
  case region =>
    intro k acc
    exact invS_step d L (by decide) wxB eB (oW := k1_off89) (hoW := k1_off89_inb) (oB := ![k1_off90, k1_off91, k1_off92, k1_off93, k1_off94, k1_off95, k1_off96, k1_off97])
      (hoB := by intro j; fin_cases j; exacts [k1_off90_inb, k1_off91_inb, k1_off92_inb, k1_off93_inb, k1_off94_inb, k1_off95_inb, k1_off96_inb, k1_off97_inb])
      1 8 (by decide) inb_S2x16x512_S1x16x512_1_0_0 squeezes_S1x16x512_S16x512 k1_off89_eq
      (by intro j; fin_cases j; exacts [k1_off90_eq, k1_off91_eq, k1_off92_eq, k1_off93_eq, k1_off94_eq, k1_off95_eq, k1_off96_eq, k1_off97_eq])
      _ _ _ _ k acc
  · unfold invS
    isplitl [Hswx]; · iexact Hswx
    isplitl [Hse1]; · iexact Hse1
    ipureintro; rfl
  iintro %acc HI
  unfold invS
  icases HI with ⟨Hswx, Hse1, %hacc10⟩
  obtain ⟨xd0, xd1, xd2, xd3, xd4, xd5, xd6, xd7⟩ := acc
  sl_exec
  sl_for (invS d L (N := k1_t11_loop.trips) (by decide) whB hS1 (whA.view.read (Elt F) fwh) (hA.view.read (Elt F) fh0) (rowOf L 1) (rowsFrom 8 (by decide)) ![xd0, xd1, xd2, xd3, xd4, xd5, xd6, xd7]) $$ [Hswh Hsh1]
  case region =>
    intro k acc
    exact invS_step d L (by decide) whB hB (oW := k1_off98) (hoW := k1_off98_inb) (oB := ![k1_off99, k1_off100, k1_off101, k1_off102, k1_off103, k1_off104, k1_off105, k1_off106])
      (hoB := by intro j; fin_cases j; exacts [k1_off99_inb, k1_off100_inb, k1_off101_inb, k1_off102_inb, k1_off103_inb, k1_off104_inb, k1_off105_inb, k1_off106_inb])
      1 8 (by decide) inb_S2x16x1024_S1x16x1024_1_0_0 squeezes_S1x16x1024_S16x1024 k1_off98_eq
      (by intro j; fin_cases j; exacts [k1_off99_eq, k1_off100_eq, k1_off101_eq, k1_off102_eq, k1_off103_eq, k1_off104_eq, k1_off105_eq, k1_off106_eq])
      _ _ _ _ k acc
  · unfold invS
    isplitl [Hswh]; · iexact Hswh
    isplitl [Hsh1]; · iexact Hsh1
    ipureintro; rfl
  iintro %acc HI
  unfold invS
  icases HI with ⟨Hswh, Hsh1, %hacc11⟩
  obtain ⟨yd0, yd1, yd2, yd3, yd4, yd5, yd6, yd7⟩ := acc
  sl_exec
  sl_for (invS d L (N := k1_t12_loop.trips) (by decide) wcB cS1 (wcA.view.read (Elt F) fwc) (cA.view.read (Elt F) fc0) (rowOf L 1) (rowsFrom 8 (by decide)) ![yd0, yd1, yd2, yd3, yd4, yd5, yd6, yd7]) $$ [Hswc Hsc1]
  case region =>
    intro k acc
    exact invS_step d L (by decide) wcB cB (oW := k1_off107) (hoW := k1_off107_inb) (oB := ![k1_off108, k1_off109, k1_off110, k1_off111, k1_off112, k1_off113, k1_off114, k1_off115])
      (hoB := by intro j; fin_cases j; exacts [k1_off108_inb, k1_off109_inb, k1_off110_inb, k1_off111_inb, k1_off112_inb, k1_off113_inb, k1_off114_inb, k1_off115_inb])
      1 8 (by decide) inb_S2x16x1024_S1x16x1024_1_0_0 squeezes_S1x16x1024_S16x1024 k1_off107_eq
      (by intro j; fin_cases j; exacts [k1_off108_eq, k1_off109_eq, k1_off110_eq, k1_off111_eq, k1_off112_eq, k1_off113_eq, k1_off114_eq, k1_off115_eq])
      _ _ _ _ k acc
  · unfold invS
    isplitl [Hswc]; · iexact Hswc
    isplitl [Hsc1]; · iexact Hsc1
    ipureintro; rfl
  iintro %acc HI
  unfold invS
  icases HI with ⟨Hswc, Hsc1, %hacc12⟩
  obtain ⟨d0, d1, d2, d3, d4, d5, d6, d7⟩ := acc
  sl_exec
  have hC1 : ∀ l, ![c0, c1, c2, c3, c4, c5, c6, c7, d0, d1, d2, d3, d4, d5, d6, d7] l = rowAcc (F := F) fe0 fh0 fc0 fx fwh fwc (rowOf L 1 l) :=
    halves
      (fun j => rows_acc (F := F) fe0 fh0 fc0 fx fwh fwc (fun j => rowOf L 1 (rowsFrom 0 (by decide) j)) _ _ _ (tup8_get hacc7) (tup8_get hacc8) (tup8_get hacc9) j)
      (fun j => rows_acc (F := F) fe0 fh0 fc0 fx fwh fwc (fun j => rowOf L 1 (rowsFrom 8 (by decide) j)) _ _ _ (tup8_get hacc10) (tup8_get hacc11) (tup8_get hacc12) j)
  have hr1 : tile_run.sl.dma3_1 d L fb gb go a0 a1 a2 a3 a4 a5 a6 a7 b0 b1 b2 b3 b4 b5 b6 b7 c0 c1 c2 c3 c4 c5 c6 c7 d0 d1 d2 d3 d4 d5 d6 d7 = chunkOut ![c0, c1, c2, c3, c4, c5, c6, c7, d0, d1, d2, d3, d4, d5, d6, d7] fb := by
    unfold tile_run.sl.dma3_1 tile_run.sl.Hso_2
    refine (obuf_read _ _ _ _ _).trans ?_
    refine Eq.trans ?_ (congrArg (chunkOut ![c0, c1, c2, c3, c4, c5, c6, c7, d0, d1, d2, d3, d4, d5, d6, d7]) (bias_read gb fb))
    rfl
  ihave Ho1 := (out_landed d L fe0 fh0 fc0 fx fwh fwc fb (k1_off61 L 1#32) (k1_off61_inb L 1) 1 (k1_off61_eq L 1) _ _ _ hC1 hr1) $$ Ho1
  sl_step
  isplitl [He0]; · iexact He0
  isplitl [He1]; · iexact He1
  isplitl [Hh0]; · iexact Hh0
  isplitl [Hh1]; · iexact Hh1
  isplitl [Hc0]; · iexact Hc0
  isplitl [Hc1]; · iexact Hc1
  isplitl [Hwx]; · iexact Hwx
  isplitl [Hwh]; · iexact Hwh
  isplitl [Hwc]; · iexact Hwc
  isplitl [Hb]; · iexact Hb
  isplitl [Ho0]; · iexact Ho0
  isplitl [Ho1]; · iexact Ho1
  isplitl [Hse0]; · iapply (sHeld_some d L _ _ _) $$ Hse0
  isplitl [Hse1]; · iapply (sHeld_some d L _ _ _) $$ Hse1
  isplitl [Hsh0]; · iapply (sHeld_some d L _ _ _) $$ Hsh0
  isplitl [Hsh1]; · iapply (sHeld_some d L _ _ _) $$ Hsh1
  isplitl [Hsc0]; · iapply (sHeld_some d L _ _ _) $$ Hsc0
  isplitl [Hsc1]; · iapply (sHeld_some d L _ _ _) $$ Hsc1
  isplitl [Hswx]; · iapply (wHeld_some d L _ _) $$ Hswx
  isplitl [Hswh]; · iapply (wHeld_some d L _ _) $$ Hswh
  isplitl [Hswc]; · iapply (wHeld_some d L _ _) $$ Hswc
  isplitl [Hsb]; · iexists _; iexact Hsb
  isplitl [Hso]; · iexists _; iexact Hso
  isplitl [Hq8]; · iexact Hq8
  isplitl [Hq9]; · iexact Hq9
  isplitl [Hq10]; · iexact Hq10
  isplitl [Hq11]; · iexact Hq11
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  iexists _
  isplitr [HO]; rotate_left; · iexact HO
  ipureintro
  intro p hp
  repeat' (rcases Finset.mem_insert.1 hp with rfl | hp; exact .inr rfl)
  exact .inl hp

end Cert.Proof.Score
-- ==== Proof.Carve.lean ====
/-
  How an array held whole is cut into two pieces and a rest and put together again; what a vector subcore's own
  buffers and semaphores are, one by one; the chunks of the outputs that a subcore writes, as a set of rows.
-/
module

public import proofs.«01_k».proof.Proof.Tile

@[expose] public section

noncomputable section

namespace Cert.Proof.Score

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Two pieces and a rest -/

/-- Elements `I` held are two disjoint pieces of them and the rest. -/
theorem carve {ℓ : Loc nD τ sig} (I A B : Finset (Idx ℓ)) (hA : A ⊆ I) (hB : B ⊆ I) (hd : Disjoint A B) (q : PosShare TreeShare) (f : Buf (Elt F) ℓ) :
    (ℓ ↦[I]{q} f : sProp 𝕄) ⊣⊢ iprop((ℓ ↦[A]{q} f) ∗ (ℓ ↦[B]{q} f) ∗ ℓ ↦[I \ (A ∪ B)]{q} f) := by
  constructor
  · iintro H
    ihave H := (pointsTo_split_subset (Finset.union_subset hA hB)).1 $$ H
    icases H with ⟨HAB, Hr⟩
    ihave HAB := (pointsTo_union hd).1 $$ HAB
    icases HAB with ⟨HA, HB⟩
    isplitl [HA]; · iexact HA
    isplitl [HB] <;> iassumption
  · iintro ⟨HA, HB, Hr⟩
    iapply (pointsTo_split_subset (Finset.union_subset hA hB)).2
    isplitl [HA HB]
    · iapply (pointsTo_union hd).2
      isplitl [HA] <;> iassumption
    · iexact Hr

/-- Two pieces and the rest, each at contents of its own, are the elements held at some contents. -/
theorem glue {ℓ : Loc nD τ sig} (I A B : Finset (Idx ℓ)) (hA : A ⊆ I) (hB : B ⊆ I) (hd : Disjoint A B) (q : PosShare TreeShare) (f : Buf (Elt F) ℓ) :
    iprop((∃ g, ℓ ↦[A]{q} g) ∗ (∃ g, ℓ ↦[B]{q} g) ∗ ℓ ↦[I \ (A ∪ B)]{q} f) ⊢ (iprop(∃ g, ℓ ↦[I]{q} g) : sProp 𝕄) := by
  iintro ⟨⟨%g1, HA⟩, ⟨%g2, HB⟩, Hr⟩
  ihave HAB := (pointsTo_join hd) $$ [HA HB]
  · isplitl [HA] <;> iassumption
  ihave H := (pointsTo_join_subset (Finset.union_subset hA hB)) $$ [HAB Hr]
  · isplitl [HAB] <;> iassumption
  iexists _; iexact H

/-! ## A vector subcore's own buffers and semaphores -/

theorem bigSep_pick {I : Type} [DecidableEq I] {s t : Finset I} (h : t ⊆ s) (Φ : I → sProp 𝕄) :
    bigSep s Φ = iprop(bigSep t Φ ∗ bigSep (s \ t) Φ) := by
  rw [← SparseCore.bigSep_union' Finset.disjoint_sdiff, Finset.union_sdiff_of_subset h]

variable (d : Dev nD) (L : grid1.Coords)

/-- The scratch buffers of the call. -/
abbrev scrs : Finset (Ref sig .scVector) :=
  {cc1_scratch0, cc1_scratch1, cc1_scratch2, cc1_scratch3, cc1_scratch4, cc1_scratch5, cc1_scratch6, cc1_scratch7}
/-- The semaphores of the call. -/
abbrev sems : Finset (SemLoc sig) :=
  {SemLoc.dma cc1_scratch8.sem, SemLoc.dma cc1_scratch9.sem, SemLoc.dma cc1_scratch10.sem, SemLoc.dma cc1_scratch11.sem,
    SemLoc.dma cc1_scoped0.sem, SemLoc.dma cc1_scoped1.sem, SemLoc.dma cc1_scoped2.sem, SemLoc.dma cc1_scoped3.sem,
    SemLoc.dma cc1_scoped4.sem, SemLoc.dma cc1_scoped5.sem}

abbrev refEmb : Ref sig .scVector ↪ DevRef τ sig := ⟨(Proc.scVector (cV L) (jV L)).devRef, Proc.devRef_injective _⟩
abbrev semEmb : SemLoc sig ↪ GSem nD τ sig := ⟨fun s => (V d (cV L) (jV L), s), fun _ _ e => (Prod.mk.inj e).2⟩

abbrev restBufs : sProp 𝕄 :=
  bigSep (ownRefs (τ := τ) (sig := sig) (.scVector (cV L) (jV L)) \ scrs.map (refEmb L)) fun b => iprop(∃ f, ((d, b) : Loc nD τ sig) ↦{fullShare} f)
abbrev restSems : sProp 𝕄 := bigSep (ownCells (V d (cV L) (jV L)) \ sems.map (semEmb d L)) fun g => semVal g 0

theorem scrs_own : scrs.map (refEmb L) ⊆ ownRefs (τ := τ) (sig := sig) (.scVector (cV L) (jV L)) := by
  intro b hb
  obtain ⟨r, hr, rfl⟩ := Finset.mem_map.1 hb
  have key : ∀ r ∈ scrs, ((Proc.scVector (cV L) (jV L)).devRef r : DevRef τ sig).owner = .proc (Proc.scVector (cV L) (jV L)) := by
    intro r hr
    simp only [scrs, Finset.mem_insert, Finset.mem_singleton] at hr
    rcases hr with rfl | rfl | rfl | rfl | rfl | rfl | rfl | rfl <;> rfl
  exact SparseCore.Cfg.mem_ownRefs_of_owner (key r hr)

theorem sems_own : sems.map (semEmb d L) ⊆ ownCells (V d (cV L) (jV L)) := by
  intro g hg
  obtain ⟨s, hs, rfl⟩ := Finset.mem_map.1 hg
  have key : ∀ s ∈ sems, s.isScoped .scVector = true := by decide
  exact mem_ownCells.2 ⟨rfl, key s hs⟩

theorem ownBufs_V : (ownBufs (V d (cV L) (jV L)) : sProp 𝕄)
    = iprop(((∃ f, (V d (cV L) (jV L)).loc cc1_scratch0 ↦{fullShare} f) ∗ (∃ f, (V d (cV L) (jV L)).loc cc1_scratch1 ↦{fullShare} f)
        ∗ (∃ f, (V d (cV L) (jV L)).loc cc1_scratch2 ↦{fullShare} f) ∗ (∃ f, (V d (cV L) (jV L)).loc cc1_scratch3 ↦{fullShare} f)
        ∗ (∃ f, (V d (cV L) (jV L)).loc cc1_scratch4 ↦{fullShare} f) ∗ (∃ f, (V d (cV L) (jV L)).loc cc1_scratch5 ↦{fullShare} f)
        ∗ (∃ f, (V d (cV L) (jV L)).loc cc1_scratch6 ↦{fullShare} f) ∗ (∃ f, (V d (cV L) (jV L)).loc cc1_scratch7 ↦{fullShare} f)) ∗ restBufs d L) := by
  unfold SparseCore.Cfg.ownBufs
  refine (bigSep_pick (scrs_own L) _).trans ?_
  rw [bigSep_map]
  congr 1
  unfold scrs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem ownSems0_V : (ownSems0 (V d (cV L) (jV L)) : sProp 𝕄)
    = iprop((semVal ((V d (cV L) (jV L)), SemLoc.dma (cc1_scratch8).sem) 0 ∗ semVal ((V d (cV L) (jV L)), SemLoc.dma (cc1_scratch9).sem) 0
        ∗ semVal ((V d (cV L) (jV L)), SemLoc.dma (cc1_scratch10).sem) 0 ∗ semVal ((V d (cV L) (jV L)), SemLoc.dma (cc1_scratch11).sem) 0
        ∗ semVal ((V d (cV L) (jV L)), SemLoc.dma (cc1_scoped0).sem) 0 ∗ semVal ((V d (cV L) (jV L)), SemLoc.dma (cc1_scoped1).sem) 0
        ∗ semVal ((V d (cV L) (jV L)), SemLoc.dma (cc1_scoped2).sem) 0 ∗ semVal ((V d (cV L) (jV L)), SemLoc.dma (cc1_scoped3).sem) 0
        ∗ semVal ((V d (cV L) (jV L)), SemLoc.dma (cc1_scoped4).sem) 0 ∗ semVal ((V d (cV L) (jV L)), SemLoc.dma (cc1_scoped5).sem) 0) ∗ restSems d L) := by
  unfold SparseCore.Cfg.ownSems0
  refine (bigSep_pick (sems_own d L) _).trans ?_
  rw [bigSep_map]
  congr 1
  unfold sems
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]
  rfl

/-! ## The windows -/

theorem win_disjoint {m n : ℕ} {off off' : Fin 2 → ℕ} (inb : ∀ a, off a + (⟨2, ![16, n]⟩ : Shape).size a ≤ (⟨2, ![m, n]⟩ : Shape).size a)
    (inb' : ∀ a, off' a + (⟨2, ![16, n]⟩ : Shape).size a ≤ (⟨2, ![m, n]⟩ : Shape).size a) (h : off 0 + 16 ≤ off' 0) :
    Disjoint (Rect.unit (s := (⟨2, ![m, n]⟩ : Shape)) off (⟨2, ![16, n]⟩ : Shape).size inb).set
      (Rect.unit (s := (⟨2, ![m, n]⟩ : Shape)) off' (⟨2, ![16, n]⟩ : Shape).size inb').set := by
  refine Finset.disjoint_left.2 fun i h1 h2 => ?_
  have a1 := (Rect.mem_set_unit.1 h1) 0
  have a2 := (Rect.mem_set_unit.1 h2) 0
  have e : (⟨2, ![16, n]⟩ : Shape).size 0 = 16 := rfl
  omega

/-- A slice of a whole buffer names the elements of its rectangle. -/
theorem whole_slice_set {κ : Kind} (r : Ref sig κ) (R : Rect (View.whole r).ty.shape) : ((View.whole r).slice R).set = R.set := by
  rw [View.set_slice]; exact Finset.map_refl

theorem eW_disjoint : Disjoint (eW0 L).view.set (eW1 L).view.set := by
  have e0 : (eW0 L).view.set = (Rect.unit (s := S16384x512) (k1_off1 L 0#32) S16x512.size (k1_off1_inb L 0)).set := whole_slice_set main_arg0_scv _
  have e1 : (eW1 L).view.set = (Rect.unit (s := S16384x512) (k1_off1 L 16#32) S16x512.size (k1_off1_inb L 1)).set := whole_slice_set main_arg0_scv _
  rw [e0, e1]
  refine win_disjoint (n := 512) _ _ ?_
  rw [show k1_off1 L 0#32 = _ from k1_off1_eq L 0, show k1_off1 L 16#32 = _ from k1_off1_eq L 1]
  simp

theorem hW_disjoint : Disjoint (hW0 L).view.set (hW1 L).view.set := by
  have e0 : (hW0 L).view.set = (Rect.unit (s := S16384x1024) (k1_off2 L 0#32) S16x1024.size (k1_off2_inb L 0)).set := whole_slice_set main_arg1_scv _
  have e1 : (hW1 L).view.set = (Rect.unit (s := S16384x1024) (k1_off2 L 16#32) S16x1024.size (k1_off2_inb L 1)).set := whole_slice_set main_arg1_scv _
  rw [e0, e1]
  refine win_disjoint (n := 1024) _ _ ?_
  rw [show k1_off2 L 0#32 = _ from k1_off2_eq L 0, show k1_off2 L 16#32 = _ from k1_off2_eq L 1]
  simp

theorem cW_disjoint : Disjoint (cW0 L).view.set (cW1 L).view.set := hW_disjoint L

/-- The two slots of a scratch of two slots have no element in common. -/
theorem slot_disjoint {n : ℕ} (inb : ∀ a, (![0, 0, 0] : Fin 3 → ℕ) a + (⟨3, ![1, 16, n]⟩ : Shape).size a ≤ (⟨3, ![2, 16, n]⟩ : Shape).size a)
    (inb' : ∀ a, (![1, 0, 0] : Fin 3 → ℕ) a + (⟨3, ![1, 16, n]⟩ : Shape).size a ≤ (⟨3, ![2, 16, n]⟩ : Shape).size a) :
    Disjoint (Rect.unit (s := (⟨3, ![2, 16, n]⟩ : Shape)) ![0, 0, 0] (⟨3, ![1, 16, n]⟩ : Shape).size inb).set
      (Rect.unit (s := (⟨3, ![2, 16, n]⟩ : Shape)) ![1, 0, 0] (⟨3, ![1, 16, n]⟩ : Shape).size inb').set := by
  refine Finset.disjoint_left.2 fun i h1 h2 => ?_
  have a1 : (i 0 : ℕ) < 0 + 1 := ((Rect.mem_set_unit.1 h1) 0).2
  have a2 : 1 ≤ (i 0 : ℕ) := ((Rect.mem_set_unit.1 h2) 0).1
  omega

theorem eS_disjoint : Disjoint (eS0).view.set (eS1).view.set := by
  have e0 : (eS0).view.set = (Rect.unit (s := S2x16x512) ![0, 0, 0] S1x16x512.size inb_S2x16x512_S1x16x512_0_0_0).set :=
    (Memref.set_view_squeeze _ _).trans (whole_slice_set cc1_scratch0 _)
  have e1 : (eS1).view.set = (Rect.unit (s := S2x16x512) ![1, 0, 0] S1x16x512.size inb_S2x16x512_S1x16x512_1_0_0).set :=
    (Memref.set_view_squeeze _ _).trans (whole_slice_set cc1_scratch0 _)
  rw [e0, e1]
  exact slot_disjoint _ _
theorem hS_disjoint : Disjoint (hS0).view.set (hS1).view.set := by
  have e0 : (hS0).view.set = (Rect.unit (s := S2x16x1024) ![0, 0, 0] S1x16x1024.size inb_S2x16x1024_S1x16x1024_0_0_0).set :=
    (Memref.set_view_squeeze _ _).trans (whole_slice_set cc1_scratch1 _)
  have e1 : (hS1).view.set = (Rect.unit (s := S2x16x1024) ![1, 0, 0] S1x16x1024.size inb_S2x16x1024_S1x16x1024_1_0_0).set :=
    (Memref.set_view_squeeze _ _).trans (whole_slice_set cc1_scratch1 _)
  rw [e0, e1]
  exact slot_disjoint _ _
theorem cS_disjoint : Disjoint (cS0).view.set (cS1).view.set := hS_disjoint

/-! ## The chunks of the outputs -/

/-- The outputs that the subcore at coordinates `(c, s)` of the call writes: two chunks of 16 rows. -/
def oSet (c : Fin 2) (s : Fin 16) : Finset S1024.Idx := Finset.univ.filter fun x => (x 0).val / 32 = 2 * s.val + c.val

abbrev c2 (L : grid1.Coords) : Fin 2 := L 0
abbrev s16 (L : grid1.Coords) : Fin 16 := L 1

theorem oW_eq : (oW0 L).view.set ∪ (oW1 L).view.set = oSet (c2 L) (s16 L) ∧ Disjoint (oW0 L).view.set (oW1 L).view.set := by
  have e0 : (oW0 L).view.set = (Rect.unit (s := S1024) (k1_off61 L 0#32) S16.size (k1_off61_inb L 0)).set := whole_slice_set main_v6_scv _
  have e1 : (oW1 L).view.set = (Rect.unit (s := S1024) (k1_off61 L 1#32) S16.size (k1_off61_inb L 1)).set := whole_slice_set main_v6_scv _
  have o0 : k1_off61 L 0#32 0 = 64 * (L 1).val + 32 * (L 0).val := (congrFun (k1_off61_eq L 0) 0).trans (by simp)
  have o1 : k1_off61 L 1#32 0 = 64 * (L 1).val + 32 * (L 0).val + 16 := (congrFun (k1_off61_eq L 1) 0).trans (by simp)
  have m (o : Fin 1 → ℕ) (inb) (i : S1024.Idx) : i ∈ (Rect.unit (s := S1024) o S16.size inb).set ↔ o 0 ≤ (i 0).val ∧ (i 0).val < o 0 + 16 := by
    rw [Rect.mem_set_unit]
    exact ⟨fun h => h 0, fun h a => by obtain rfl : a = 0 := Subsingleton.elim _ _; exact h⟩
  have hc : (L 0).val < 2 := (L 0).isLt
  rw [e0, e1]
  constructor
  · ext i
    rw [Finset.mem_union, m, m, o0, o1]
    simp only [oSet, Finset.mem_filter, Finset.mem_univ, true_and]
    show _ ↔ (i 0).val / 32 = 2 * (L 1).val + (L 0).val
    omega
  · refine Finset.disjoint_left.2 fun i h1 h2 => ?_
    rw [m, o0] at h1; rw [m, o1] at h2
    omega

/-- The outputs that SparseCore `c` writes. -/
def oCore (c : Fin 2) : Finset S1024.Idx := Finset.univ.filter fun x => (x 0).val / 32 % 2 = c.val

theorem oSet_disjoint (c : Fin 2) : ∀ i ∈ (Finset.univ : Finset (Fin 16)), ∀ j ∈ (Finset.univ : Finset (Fin 16)), i ≠ j → Disjoint (oSet c i) (oSet c j) := by
  intro i _ j _ h
  refine Finset.disjoint_left.2 fun x h1 h2 => h (Fin.ext ?_)
  simp only [oSet, Finset.mem_filter, Finset.mem_univ, true_and] at h1 h2
  omega
theorem oSet_cover (c : Fin 2) : (Finset.univ : Finset (Fin 16)).biUnion (oSet c) = oCore c := by
  ext x
  have hx : (x 0).val < 1024 := (x 0).isLt
  simp only [oSet, oCore, Finset.mem_biUnion, Finset.mem_filter, Finset.mem_univ, true_and]
  constructor
  · rintro ⟨i, h⟩; omega
  · intro h; exact ⟨⟨(x 0).val / 64, by omega⟩, by show _ = 2 * ((x 0).val / 64) + c.val; omega⟩
theorem oCore_disjoint : ∀ i ∈ (Finset.univ : Finset (Fin 2)), ∀ j ∈ (Finset.univ : Finset (Fin 2)), i ≠ j → Disjoint (oCore i) (oCore j) := by
  intro i _ j _ h
  refine Finset.disjoint_left.2 fun x h1 h2 => h (Fin.ext ?_)
  simp only [oCore, Finset.mem_filter, Finset.mem_univ, true_and] at h1 h2
  omega
theorem oCore_cover : (Finset.univ : Finset (Fin 2)).biUnion oCore = Finset.univ := by
  ext x
  simp only [oCore, Finset.mem_biUnion, Finset.mem_filter, Finset.mem_univ, true_and, iff_true]
  exact ⟨⟨(x 0).val / 32 % 2, by omega⟩, rfl⟩

end Cert.Proof.Score
-- ==== Proof.Task.lean ====
/-
  What the call on the SparseCores takes and hands back: every subcore a read share of the seven operands and its own
  chunks of the outputs, which come back holding the scores. The task of one subcore, as the launch theorem asks for it,
  and how a SparseCore's sequencer deals its part to its sixteen subcores and puts it together again.
-/
module

public import proofs.«01_k».proof.Proof.Carve

@[expose] public section

noncomputable section

namespace Cert.Proof.Score

open Cert.KernelIdeal Cert.KernelIdeal.Gen

open Idealize.ShloMosaic
open Idealize.ShloMosaic.Transfers (shareTok shareDrop)
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The operands -/

-- what the buffers of @main hold when the call starts
variable (W : Dev nD → Valuation τ sig (Elt F))

abbrev e' : DevRef τ sig := Proc.devRef .tc (main_arg0 : Ref sig .tc)
abbrev h' : DevRef τ sig := Proc.devRef .tc (main_arg1 : Ref sig .tc)
abbrev c' : DevRef τ sig := Proc.devRef .tc (main_arg2 : Ref sig .tc)
abbrev wx' : DevRef τ sig := Proc.devRef .tc (main_v0 : Ref sig .tc)
abbrev wh' : DevRef τ sig := Proc.devRef .tc (main_v1 : Ref sig .tc)
abbrev wc' : DevRef τ sig := Proc.devRef .tc (main_v2 : Ref sig .tc)
abbrev b' : DevRef τ sig := Proc.devRef .tc (main_v3 : Ref sig .tc)
abbrev o' : DevRef τ sig := Proc.devRef .tc (main_v6 : Ref sig .tc)

/-- The seven operands that the subcores read, each at share `q`. -/
abbrev src (d : Dev nD) (q : PosShare TreeShare) : sProp 𝕄 :=
  iprop(((SparseCore.T d).loc main_arg0 ↦{q} W d e') ∗ ((SparseCore.T d).loc main_arg1 ↦{q} W d h') ∗ ((SparseCore.T d).loc main_arg2 ↦{q} W d c')
    ∗ ((SparseCore.T d).loc main_v0 ↦{q} W d wx') ∗ ((SparseCore.T d).loc main_v1 ↦{q} W d wh') ∗ ((SparseCore.T d).loc main_v2 ↦{q} W d wc') ∗ ((SparseCore.T d).loc main_v3 ↦{q} W d b'))

/-- What the call leaves in the outputs. -/
abbrev scores (d : Dev nD) : S1024.Idx → F .f32 := scOut (F := F) (W d e') (W d h') (W d c') (W d wx') (W d wh') (W d wc') (W d b')

/-- Elements `I` of the outputs at contents `f`. -/
abbrev outs (d : Dev nD) (I : Finset S1024.Idx) (f : S1024.Idx → F .f32) : sProp 𝕄 := (SparseCore.T d).loc main_v6 ↦[I]{fullShare} f

theorem src_split (d : Dev nD) (q : PosShare TreeShare) (n : ℕ) :
    (src W d q : sProp 𝕄) ⊢ iprop(src W d (shareDrop q n) ∗ bigSep Finset.univ fun i : Fin n => src W d (shareTok q n i)) := by
  unfold src
  rw [bigSep_sep', bigSep_sep', bigSep_sep', bigSep_sep', bigSep_sep', bigSep_sep']
  iintro ⟨H0, H1, H2, H3, H4, H5, H6⟩
  ihave H0 := (Transfers.pointsTo_toks_split q n) $$ H0
  ihave H1 := (Transfers.pointsTo_toks_split q n) $$ H1
  ihave H2 := (Transfers.pointsTo_toks_split q n) $$ H2
  ihave H3 := (Transfers.pointsTo_toks_split q n) $$ H3
  ihave H4 := (Transfers.pointsTo_toks_split q n) $$ H4
  ihave H5 := (Transfers.pointsTo_toks_split q n) $$ H5
  ihave H6 := (Transfers.pointsTo_toks_split q n) $$ H6
  icases H0 with ⟨D0, H0⟩; icases H1 with ⟨D1, H1⟩; icases H2 with ⟨D2, H2⟩; icases H3 with ⟨D3, H3⟩
  icases H4 with ⟨D4, H4⟩; icases H5 with ⟨D5, H5⟩; icases H6 with ⟨D6, H6⟩
  isplitl [D0 D1 D2 D3 D4 D5 D6]
  · isplitl [D0]; · iexact D0
    isplitl [D1]; · iexact D1
    isplitl [D2]; · iexact D2
    isplitl [D3]; · iexact D3
    isplitl [D4]; · iexact D4
    isplitl [D5] <;> iassumption
  · isplitl [H0]; · iexact H0
    isplitl [H1]; · iexact H1
    isplitl [H2]; · iexact H2
    isplitl [H3]; · iexact H3
    isplitl [H4]; · iexact H4
    isplitl [H5] <;> iassumption

theorem src_join (d : Dev nD) (q : PosShare TreeShare) (n : ℕ) :
    iprop(src W d (shareDrop q n) ∗ bigSep Finset.univ fun i : Fin n => src W d (shareTok q n i)) ⊢ (src W d q : sProp 𝕄) := by
  unfold src
  rw [bigSep_sep', bigSep_sep', bigSep_sep', bigSep_sep', bigSep_sep', bigSep_sep']
  iintro ⟨⟨D0, D1, D2, D3, D4, D5, D6⟩, H0, H1, H2, H3, H4, H5, H6⟩
  isplitl [D0 H0]; · iapply (Transfers.pointsTo_toks_join q n); isplitl [D0] <;> iassumption
  isplitl [D1 H1]; · iapply (Transfers.pointsTo_toks_join q n); isplitl [D1] <;> iassumption
  isplitl [D2 H2]; · iapply (Transfers.pointsTo_toks_join q n); isplitl [D2] <;> iassumption
  isplitl [D3 H3]; · iapply (Transfers.pointsTo_toks_join q n); isplitl [D3] <;> iassumption
  isplitl [D4 H4]; · iapply (Transfers.pointsTo_toks_join q n); isplitl [D4] <;> iassumption
  isplitl [D5 H5]; · iapply (Transfers.pointsTo_toks_join q n); isplitl [D5] <;> iassumption
  iapply (Transfers.pointsTo_toks_join q n); isplitl [D6] <;> iassumption

/-! ## The handshakes' payloads -/

theorem nCore_zero : (K (F := F)).nCore 0 = 2 := rfl
theorem nSub_zero : (K (F := F)).nSub 0 = 16 := rfl

abbrev qCore (c : Fin 2) : PosShare TreeShare := shareTok fullShare 2 c
abbrev qTile (c : Fin 2) (i : Fin 16) : PosShare TreeShare := shareTok (qCore c) 16 i

/-- To a SparseCore: a read share of the operands, and its part of the outputs at contents `f`. -/
abbrev forCore (d : Dev nD) (f : S1024.Idx → F .f32) (c : Fin 2) : sProp 𝕄 := iprop(src W d (qCore c) ∗ outs d (oCore c) f)
/-- To a subcore. -/
abbrev forTile (d : Dev nD) (f : S1024.Idx → F .f32) (c : Fin 2) (i : Fin 16) : sProp 𝕄 := iprop(src W d (qTile c i) ∗ outs d (oSet c i) f)

def P : (K (F := F)).Pay (nD := nD) (Val := Elt F) (Name := ℕ) (U := UU) where
  st := fun q d c => match q with | 0 => forCore W d (W d o') (Fin.cast nCore_zero c)
  dn := fun q d c => match q with | 0 => forCore W d (scores W d) (Fin.cast nCore_zero c)
  go := fun q d c i => match q with | 0 => forTile W d (W d o') (Fin.cast nCore_zero c) (Fin.cast nSub_zero i)
  td := fun q d c i => match q with | 0 => forTile W d (scores W d) (Fin.cast nCore_zero c) (Fin.cast nSub_zero i)
  x := fun _ _ => iprop(emp)

instance P_storable : (P (F := F) W).IsStorable where
  st q d c := match q with
    | 0 => (inferInstance : BI.Storable (upEmb : UEmb _ 𝕄) (forCore W d (W d o') (Fin.cast nCore_zero c)))
  dn q d c := match q with
    | 0 => (inferInstance : BI.Storable (upEmb : UEmb _ 𝕄) (forCore W d (scores W d) (Fin.cast nCore_zero c)))
  go q d c i := match q with
    | 0 => (inferInstance : BI.Storable (upEmb : UEmb _ 𝕄) (forTile W d (W d o') (Fin.cast nCore_zero c) (Fin.cast nSub_zero i)))
  td q d c i := match q with
    | 0 => (inferInstance : BI.Storable (upEmb : UEmb _ 𝕄) (forTile W d (scores W d) (Fin.cast nCore_zero c) (Fin.cast nSub_zero i)))

end Cert.Proof.Score
-- ==== Proof.Dispatch.lean ====
/-
  The task of one subcore over all that the subcore owns, in the launch theorem's words, and the two splits: a
  SparseCore's part of the call dealt to its sixteen subcores, and put together again.
-/
module

public import proofs.«01_k».proof.Proof.Task

@[expose] public section

noncomputable section

namespace Cert.Proof.Score

open Cert.KernelIdeal Cert.KernelIdeal.Gen

open Idealize.ShloMosaic
open Idealize.ShloMosaic.Transfers (shareTok shareDrop)
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (W : Dev nD → Valuation τ sig (Elt F))

/-! ## The task -/

variable (d : Dev nD) (L : grid1.Coords)

theorem outs_two (f : S1024.Idx → F .f32) :
    (outs d (oSet (c2 L) (s16 L)) f : sProp 𝕄) ⊣⊢ iprop(heldW d L (oW0 L) fullShare f ∗ heldW d L (oW1 L) fullShare f) := by
  unfold outs
  rw [← (oW_eq L).1]
  exact pointsTo_union (oW_eq L).2

theorem held_whole (r : Ref sig .scVector) (q : PosShare TreeShare) (f : Buf (Elt F) ((V d (cV L) (jV L)).loc r)) :
    (heldW d L (Memref.whole r) q f : sProp 𝕄) = ((V d (cV L) (jV L)).loc r ↦{q} f) := by
  simp only [heldW, Memref.view_whole, View.set_whole]

set_option maxHeartbeats 2000000 in
theorem tile_body [∀ e, Nonempty (Elt F e)] (hF : (K (F := F)).Facts) (O : CellTallies nD τ sig (HIx 1)) (Wt : Waits sig (HIx 1)) (hO : ∀ g, O g none = 0) :
    iprop(levAts (K (F := F)).L (K (F := F)).lev ∗ emp
        ∗ forTile W d (W d o') (c2 L) (s16 L)
        ∗ scopedBufs (V d (cV L) (jV L)) ∗ scopedSems0 (V d (cV L) (jV L)) ∗ owes (V d (cV L) (jV L)) O Wt)
      ⊢ wp frame (wpE (defs₀ (F := F)) 𝒱₀ (V d (cV L) (jV L)) none) Set.univ
          (cc1__sc_body L eA (Memref.isWhole_whole _) hA (Memref.isWhole_whole _) cA (Memref.isWhole_whole _) wxA (Memref.isWhole_whole _)
            whA (Memref.isWhole_whole _) wcA (Memref.isWhole_whole _) bA (Memref.isWhole_whole _) oA (Memref.isWhole_whole _)
            eB (Memref.isWhole_whole _) hB (Memref.isWhole_whole _) cB (Memref.isWhole_whole _) wxB (Memref.isWhole_whole _)
            whB (Memref.isWhole_whole _) wcB (Memref.isWhole_whole _) bB (Memref.isWhole_whole _) oB (Memref.isWhole_whole _)
            cc1_scratch8 cc1_scratch9 cc1_scratch10 cc1_scratch11 cc1_scoped0 cc1_scoped1 cc1_scoped2 cc1_scoped3 cc1_scoped4 cc1_scoped5)
          fun _ => iprop(forTile W d (scores W d) (c2 L) (s16 L) ∗ scopedBufs (V d (cV L) (jV L)) ∗ scopedSems0 (V d (cV L) (jV L))
            ∗ ∃ W', ⌜∀ p ∈ W', p ∈ Wt ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  have cutE := carve (F := F) (ℓ := (eA).view.loc (V d (cV L) (jV L))) Finset.univ (eW0 L).view.set (eW1 L).view.set (Finset.subset_univ _) (Finset.subset_univ _) (eW_disjoint L) (qTile (c2 L) (s16 L)) (W d e')
  have cutH := carve (F := F) (ℓ := (hA).view.loc (V d (cV L) (jV L))) Finset.univ (hW0 L).view.set (hW1 L).view.set (Finset.subset_univ _) (Finset.subset_univ _) (hW_disjoint L) (qTile (c2 L) (s16 L)) (W d h')
  have cutC := carve (F := F) (ℓ := (cA).view.loc (V d (cV L) (jV L))) Finset.univ (cW0 L).view.set (cW1 L).view.set (Finset.subset_univ _) (Finset.subset_univ _) (cW_disjoint L) (qTile (c2 L) (s16 L)) (W d c')
  iintro ⟨#Hlv, -, ⟨⟨He, Hh, Hc, Hx, Hwh, Hwc, Hb⟩, Ho⟩, ⟨⟨⟨%g0, Hs0⟩, ⟨%g1, Hs1⟩, ⟨%g2, Hs2⟩, ⟨%g3, Hs3⟩, ⟨%g4, Hs4⟩, ⟨%g5, Hs5⟩, ⟨%g6, Hs6⟩, ⟨%g7, Hs7⟩⟩, Hrb⟩,
    ⟨⟨Q8, Q9, Q10, Q11, R0, R1, R2, R3, R4, R5⟩, Hrs⟩, HO⟩
  ihave Hmw := ((K (F := F)).mayWaits_none (thr := V d (cV L) (jV L)) hO) $$ Hlv
  ihave He := cutE.1 $$ He
  icases He with ⟨He0, He1, Her⟩
  ihave Hh := cutH.1 $$ Hh
  icases Hh with ⟨Hh0, Hh1, Hhr⟩
  ihave Hc := cutC.1 $$ Hc
  icases Hc with ⟨Hc0, Hc1, Hcr⟩
  ihave Ho := (outs_two d L (W d o')).1 $$ Ho
  icases Ho with ⟨Ho0, Ho1⟩
  ihave Hs0 := (carve (F := F) (ℓ := (eB).view.loc (V d (cV L) (jV L))) Finset.univ (eS0).view.set (eS1).view.set (Finset.subset_univ _) (Finset.subset_univ _) eS_disjoint fullShare g0).1 $$ Hs0
  icases Hs0 with ⟨Hs00, Hs01, Hs0r⟩
  ihave Hs1 := (carve (F := F) (ℓ := (hB).view.loc (V d (cV L) (jV L))) Finset.univ (hS0).view.set (hS1).view.set (Finset.subset_univ _) (Finset.subset_univ _) hS_disjoint fullShare g1).1 $$ Hs1
  icases Hs1 with ⟨Hs10, Hs11, Hs1r⟩
  ihave Hs2 := (carve (F := F) (ℓ := (cB).view.loc (V d (cV L) (jV L))) Finset.univ (cS0).view.set (cS1).view.set (Finset.subset_univ _) (Finset.subset_univ _) cS_disjoint fullShare g2).1 $$ Hs2
  icases Hs2 with ⟨Hs20, Hs21, Hs2r⟩
  iapply (wp_wand_r frame (wpE (defs₀ (F := F)) 𝒱₀ (V d (cV L) (jV L)) none) Set.univ)
  isplitr [Her Hhr Hcr Hs0r Hs1r Hs2r Hrb Hrs]
  · iapply (tile_run d L (qTile (c2 L) (s16 L)) (W d e') (W d h') (W d c') (W d wx') (W d wh') (W d wc') (W d b') (W d o') g0 g1 g2 g3 g4 g5 g6 g7 O Wt trivial trivial)
    isplitl [Hmw]; · iexact Hmw
    isplitl [He0]; · iexact He0
    isplitl [He1]; · iexact He1
    isplitl [Hh0]; · iexact Hh0
    isplitl [Hh1]; · iexact Hh1
    isplitl [Hc0]; · iexact Hc0
    isplitl [Hc1]; · iexact Hc1
    isplitl [Hx]; · iapply (Entails.of_eq (held_whole d L main_v0_scv (qTile (c2 L) (s16 L)) _).symm); iexact Hx
    isplitl [Hwh]; · iapply (Entails.of_eq (held_whole d L main_v1_scv (qTile (c2 L) (s16 L)) _).symm); iexact Hwh
    isplitl [Hwc]; · iapply (Entails.of_eq (held_whole d L main_v2_scv (qTile (c2 L) (s16 L)) _).symm); iexact Hwc
    isplitl [Hb]; · iapply (Entails.of_eq (held_whole d L main_v3_scv (qTile (c2 L) (s16 L)) _).symm); iexact Hb
    isplitl [Ho0]; · iexact Ho0
    isplitl [Ho1]; · iexact Ho1
    isplitl [Hs00]; · iexact Hs00
    isplitl [Hs01]; · iexact Hs01
    isplitl [Hs10]; · iexact Hs10
    isplitl [Hs11]; · iexact Hs11
    isplitl [Hs20]; · iexact Hs20
    isplitl [Hs21]; · iexact Hs21
    isplitl [Hs3]; · iexact Hs3
    isplitl [Hs4]; · iexact Hs4
    isplitl [Hs5]; · iexact Hs5
    isplitl [Hs6]; · iexact Hs6
    isplitl [Hs7]; · iexact Hs7
    isplitl [Q8]; · iexact Q8
    isplitl [Q9]; · iexact Q9
    isplitl [Q10]; · iexact Q10
    isplitl [Q11]; · iexact Q11
    isplitl [R0]; · iexact R0
    isplitl [R1]; · iexact R1
    isplitl [R2]; · iexact R2
    isplitl [R3]; · iexact R3
    isplitl [R4]; · iexact R4
    isplitl [R5]; · iexact R5
    iexact HO
  iintro %_ ⟨He0, He1, Hh0, Hh1, Hc0, Hc1, Hx, Hwh, Hwc, Hb, Ho0, Ho1, Hs00, Hs01, Hs10, Hs11, Hs20, Hs21, Hs3, Hs4, Hs5, Hs6, Hs7, Q8, Q9, Q10, Q11, R0, R1, R2, R3, R4, R5, HO⟩
  isplitl [He0 He1 Her Hh0 Hh1 Hhr Hc0 Hc1 Hcr Hx Hwh Hwc Hb Ho0 Ho1]
  · isplitr [Ho0 Ho1]
    · isplitl [He0 He1 Her]
      · iapply cutE.2; isplitl [He0]; · iexact He0
        isplitl [He1] <;> iassumption
      isplitl [Hh0 Hh1 Hhr]
      · iapply cutH.2; isplitl [Hh0]; · iexact Hh0
        isplitl [Hh1] <;> iassumption
      isplitl [Hc0 Hc1 Hcr]
      · iapply cutC.2; isplitl [Hc0]; · iexact Hc0
        isplitl [Hc1] <;> iassumption
      isplitl [Hx]; · iapply (Entails.of_eq (held_whole d L main_v0_scv (qTile (c2 L) (s16 L)) _)); iexact Hx
      isplitl [Hwh]; · iapply (Entails.of_eq (held_whole d L main_v1_scv (qTile (c2 L) (s16 L)) _)); iexact Hwh
      isplitl [Hwc]; · iapply (Entails.of_eq (held_whole d L main_v2_scv (qTile (c2 L) (s16 L)) _)); iexact Hwc
      iapply (Entails.of_eq (held_whole d L main_v3_scv (qTile (c2 L) (s16 L)) _)); iexact Hb
    · iapply (outs_two d L (scores W d)).2
      isplitl [Ho0] <;> iassumption
  isplitl [Hs00 Hs01 Hs0r Hs10 Hs11 Hs1r Hs20 Hs21 Hs2r Hs3 Hs4 Hs5 Hs6 Hs7 Hrb]
  · isplitr [Hrb]
    · isplitl [Hs00 Hs01 Hs0r]
      · iapply (glue (F := F) (ℓ := (eB).view.loc (V d (cV L) (jV L))) Finset.univ (eS0).view.set (eS1).view.set (Finset.subset_univ _) (Finset.subset_univ _) eS_disjoint fullShare g0)
        isplitl [Hs00]; · iexact Hs00
        isplitl [Hs01] <;> iassumption
      isplitl [Hs10 Hs11 Hs1r]
      · iapply (glue (F := F) (ℓ := (hB).view.loc (V d (cV L) (jV L))) Finset.univ (hS0).view.set (hS1).view.set (Finset.subset_univ _) (Finset.subset_univ _) hS_disjoint fullShare g1)
        isplitl [Hs10]; · iexact Hs10
        isplitl [Hs11] <;> iassumption
      isplitl [Hs20 Hs21 Hs2r]
      · iapply (glue (F := F) (ℓ := (cB).view.loc (V d (cV L) (jV L))) Finset.univ (cS0).view.set (cS1).view.set (Finset.subset_univ _) (Finset.subset_univ _) cS_disjoint fullShare g2)
        isplitl [Hs20]; · iexact Hs20
        isplitl [Hs21] <;> iassumption
      isplitl [Hs3]; · iexact Hs3
      isplitl [Hs4]; · iexact Hs4
      isplitl [Hs5]; · iexact Hs5
      isplitl [Hs6]; · iexact Hs6
      iexact Hs7
    · iexact Hrb
  isplitl [Q8 Q9 Q10 Q11 R0 R1 R2 R3 R4 R5 Hrs]
  · isplitr [Hrs]
    · isplitl [Q8]; · iexact Q8
      isplitl [Q9]; · iexact Q9
      isplitl [Q10]; · iexact Q10
      isplitl [Q11]; · iexact Q11
      isplitl [R0]; · iexact R0
      isplitl [R1]; · iexact R1
      isplitl [R2]; · iexact R2
      isplitl [R3]; · iexact R3
      isplitl [R4]; · iexact R4
      iexact R5
    · iexact Hrs
  iexact HO

/-! ## The launch theorem's obligation for a task -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (coordsV c s)
          eA (Memref.isWhole_whole _) hA (Memref.isWhole_whole _) cA (Memref.isWhole_whole _) wxA (Memref.isWhole_whole _)
            whA (Memref.isWhole_whole _) wcA (Memref.isWhole_whole _) bA (Memref.isWhole_whole _) oA (Memref.isWhole_whole _)
            eB (Memref.isWhole_whole _) hB (Memref.isWhole_whole _) cB (Memref.isWhole_whole _) wxB (Memref.isWhole_whole _)
            whB (Memref.isWhole_whole _) wcB (Memref.isWhole_whole _) bB (Memref.isWhole_whole _) oB (Memref.isWhole_whole _)
            cc1_scratch8 cc1_scratch9 cc1_scratch10 cc1_scratch11 cc1_scoped0 cc1_scoped1 cc1_scoped2 cc1_scoped3 cc1_scoped4 cc1_scoped5) ⟨⟩ c s := rfl

omit [FloatOps F] in
theorem obl_post {thr : Thread nD τ} {A B C : sProp 𝕄} {O : CellTallies nD τ sig (HIx 1)} {Wt : Waits sig (HIx 1)}
    {q : Fin 1} :
    iprop(A ∗ B ∗ C ∗ ∃ W', ⌜∀ p ∈ W', p ∈ Wt ∨ p.2 = none⌝ ∗ owes thr O W')
      ⊢ iprop(A ∗ B ∗ C ∗ ∃ W', ⌜∀ p ∈ W', p ∈ Wt ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [∀ e, Nonempty (Elt F e)] (hF : (K (F := F)).Facts) : (K (F := F)).TileObl (D (F := F)) 𝒱 (P W) v₀ 0 := by
  intro d c i O Wt hO _ _
  simp only [show (P (F := F) W).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  refine (tile_body W d (coordsV ⟨_, hc.1⟩ ⟨_, hc.2⟩) hF O Wt hO).trans (wp_mono frame _ _ fun _ => obl_post)

/-! ## Dealing a SparseCore's part -/

theorem outs_deal (d : Dev nD) (c : Fin 2) (f : S1024.Idx → F .f32) :
    (outs d (oCore c) f : sProp 𝕄) = bigSep Finset.univ fun i : Fin 16 => outs d (oSet c i) f := by
  unfold outs
  rw [← pointsTo_biUnion Finset.univ (ℓ := (SparseCore.T d).loc main_v6) (oSet c) (oSet_disjoint c), oSet_cover]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P W) 0 := by
  intro d c
  show forCore W d (W d o') (Fin.cast nCore_zero c) ⊢ |={Set.univ}=> iprop(
      (bigSep Finset.univ fun i : Fin ((K (F := F)).nSub 0) => forTile W d (W d o') (Fin.cast nCore_zero c) (Fin.cast nSub_zero i))
      ∗ ((bigSep Finset.univ fun i : Fin ((K (F := F)).nSub 0) => forTile W d (scores W d) (Fin.cast nCore_zero c) (Fin.cast nSub_zero i))
          -∗ forCore W d (scores W d) (Fin.cast nCore_zero c)))
  generalize Fin.cast nCore_zero c = c
  rw [bigSep_tasks (F := F) (fun i => forTile W d (W d o') c i), bigSep_tasks (F := F) (fun i => forTile W d (scores W d) c i)]
  have hs : ∀ f, (bigSep Finset.univ fun i : Fin 16 => forTile W d f c i)
      = iprop((bigSep Finset.univ fun i : Fin 16 => src W d (qTile c i)) ∗ bigSep Finset.univ fun i : Fin 16 => outs d (oSet c i) f) :=
    fun f => bigSep_sep' ..
  rw [hs, hs, forCore, forCore, outs_deal, outs_deal]
  iintro ⟨Hs, Ho⟩; imodintro
  ihave Hs := (src_split W d (qCore c) 16) $$ Hs
  icases Hs with ⟨Hd, Hs⟩
  isplitl [Hs Ho]; · isplitl [Hs] <;> iassumption
  iintro ⟨Hs, Ho⟩
  isplitl [Hd Hs]
  · iapply (src_join W d (qCore c) 16); isplitl [Hd] <;> iassumption
  · iexact Ho

end Cert.Proof.Score
-- ==== Proof.Main.lean ====
module
public import proofs.«01_k».proof.Proof.Region
public import proofs.«01_k».proof.Proof.Dispatch
public import Idealize.ShloMosaic.Lib.Pipeline.Frame

@[expose] public section

/-! # @main on the TensorCore

The five host operations that lay out the weights and the bias, the call on the TensorCore, the call on the
SparseCores, and the concatenation of their results; all over the unscoped buffers of the program, at the contents that
each step leaves. -/

noncomputable section
namespace Cert.Proof.Score
open Cert.KernelIdeal Cert.KernelIdeal.Gen
open Idealize.ShloMosaic
open Idealize.ShloMosaic.TcCoe Idealize.ShloMosaic.Tactic
open Idealize.ShloMosaic.Transfers (shareTok shareDrop)
open Idealize.ShloMosaic.StableHlo (held held_sub_split held_congr wp_hlo_within)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [∀ e, Nonempty (Elt F e)]
local notation "𝕄" => MT nD τ sig (HIx 1) (Elt F) ℕ UU ℕ

variable (m : (ℓ : Loc nD τ sig) → Buf (Elt F) ℓ) (ρ : Dev nD → PrngReg)

/-! ## What the buffers hold -/

abbrev opWx : HloOp τ sig (Elt F) := StableHlo.reshape main_arg3 main_v0 (rfl : (.f32 : EltTy) = .f32) shapeCasts_S1x512_S512
abbrev opWh : HloOp τ sig (Elt F) := StableHlo.reshape main_arg4 main_v1 (rfl : (.f32 : EltTy) = .f32) shapeCasts_S1x1024_S1024
abbrev opWc : HloOp τ sig (Elt F) := StableHlo.reshape main_arg5 main_v2 (rfl : (.f32 : EltTy) = .f32) shapeCasts_S1x1024_S1024
abbrev opBs : HloOp τ sig (Elt F) := StableHlo.unary main_arg6 main_v3 (broadcastInDim S16 ![0] bcast_S1_S16_0 : (⟨S1, .f32⟩ : BufTy).Contents (Elt F) → (⟨S16, .f32⟩ : BufTy).Contents (Elt F))
abbrev opBt : HloOp τ sig (Elt F) := StableHlo.reshape main_arg6 main_v4 (rfl : (.f32 : EltTy) = .f32) shapeCasts_S1_S1x1
abbrev opCat : HloOp τ sig (Elt F) := StableHlo.binary main_v6 main_v5 main_v7 ((fun a b => concatenate S16384 0 [⟨S1024, a⟩, ⟨S15360, b⟩] concatenates_S1024_S15360_S16384_d0) : (⟨S1024, .f32⟩ : BufTy).Contents (Elt F) → (⟨S15360, .f32⟩ : BufTy).Contents (Elt F) → (⟨S16384, .f32⟩ : BufTy).Contents (Elt F))

/-- The output of the TensorCore call. -/
abbrev t' : DevRef τ sig := Proc.devRef .tc (main_v5 : Ref sig .tc)

/-- At the launch. -/
def V0 (d : Dev nD) : Valuation τ sig (Elt F) := fun b => m (d, b)
/-- After the host operations. -/
def V1 (d : Dev nD) : Valuation τ sig (Elt F) := StableHlo.after [opWx, opWh, opWc, opBs, opBt] (V0 m d)
/-- After the TensorCore call. -/
def V2 (d : Dev nD) : Valuation τ sig (Elt F) := Function.update (V1 m d) t' (scored (fun c b => V1 m c b) d)
/-- After the SparseCore call. -/
def V3 (d : Dev nD) : Valuation τ sig (Elt F) := Function.update (V2 m d) o' (scores (V2 m) d)
/-- At the return. -/
def V4 (d : Dev nD) : Valuation τ sig (Elt F) := (opCat (F := F)).result (V3 m d)

/-! ## The buffers that the SparseCore call takes -/

abbrev SU : Finset (DevRef τ sig) := Pipeline.ucRefs τ sig
abbrev SC8 : Finset (DevRef τ sig) := {e', h', c', wx', wh', wc', b', o'}

theorem SC8_sub : SC8 ⊆ SU := by decide

theorem held_SC8 (d : Dev nD) (V : Valuation τ sig (Elt F)) (W : Dev nD → Valuation τ sig (Elt F)) (h : ∀ b, b ≠ o' → V b = W d b) :
    (held (SparseCore.T d) SC8 V : sProp 𝕄) = iprop(src W d fullShare ∗ outs d Finset.univ (V o')) := by
  unfold held
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton,
    h e' (by decide), h h' (by decide), h c' (by decide), h wx' (by decide), h wh' (by decide), h wc' (by decide), h b' (by decide)]
  apply BI.equiv_iff.mp
  constructor
  · show (_ : sProp 𝕄) ⊢ (_ : sProp 𝕄)
    iintro ⟨H0, H1, H2, H3, H4, H5, H6, H7⟩
    isplitr [H7]
    · isplitl [H0]; · iexact H0
      isplitl [H1]; · iexact H1
      isplitl [H2]; · iexact H2
      isplitl [H3]; · iexact H3
      isplitl [H4]; · iexact H4
      isplitl [H5]; · iexact H5
      iexact H6
    iexact H7
  · show (_ : sProp 𝕄) ⊢ (_ : sProp 𝕄)
    iintro ⟨⟨H0, H1, H2, H3, H4, H5, H6⟩, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem V3_o (d : Dev nD) : V3 m d o' = scores (V2 m) d := Function.update_self _ _ _
theorem V3_ne (d : Dev nD) (b : DevRef τ sig) (h : b ≠ o') : V3 m d b = V2 m d b := Function.update_of_ne h _ _

theorem opWx_sub : (opWx (F := F)).bufs ⊆ SU := Pipeline.sub_ucRefs _ (StableHlo.reshape_bufs_sub ..)
theorem opWh_sub : (opWh (F := F)).bufs ⊆ SU := Pipeline.sub_ucRefs _ (StableHlo.reshape_bufs_sub ..)
theorem opWc_sub : (opWc (F := F)).bufs ⊆ SU := Pipeline.sub_ucRefs _ (StableHlo.reshape_bufs_sub ..)
theorem opBs_sub : (opBs (F := F)).bufs ⊆ SU := Pipeline.sub_ucRefs _ (StableHlo.unary_bufs_sub ..)
theorem opBt_sub : (opBt (F := F)).bufs ⊆ SU := Pipeline.sub_ucRefs _ (StableHlo.reshape_bufs_sub ..)
theorem opCat_sub : (opCat (F := F)).bufs ⊆ SU := Pipeline.sub_ucRefs _ (StableHlo.binary_bufs_sub ..)

/-- The buffers outside the call are as they were. -/
theorem held_rest (d : Dev nD) : (held (SparseCore.T d) (SU \ SC8) (V3 m d) : sProp 𝕄) = held (SparseCore.T d) (SU \ SC8) (V2 m d) :=
  held_congr _ fun b hb => V3_ne m d b fun h => (Finset.mem_sdiff.mp hb).2 (h ▸ by decide)

/-- What the two sequencers take, and what they hand back. -/
theorem st0_eq (W : Dev nD → Valuation τ sig (Elt F)) (d : Dev nD) :
    (bigSep Finset.univ fun c : Fin ((K (F := F)).nCore 0) => (P W).st 0 d c) = bigSep Finset.univ fun c : Fin 2 => forCore W d (W d o') c := rfl
theorem dn0_eq (W : Dev nD → Valuation τ sig (Elt F)) (d : Dev nD) :
    (bigSep Finset.univ fun c : Fin ((K (F := F)).nCore 0) => (P W).dn 0 d c) = bigSep Finset.univ fun c : Fin 2 => forCore W d (scores W d) c := rfl

theorem outs_cores (d : Dev nD) (f : S1024.Idx → F .f32) :
    (outs d Finset.univ f : sProp 𝕄) = bigSep Finset.univ fun c : Fin 2 => outs d (oCore c) f := by
  unfold outs
  rw [← pointsTo_biUnion Finset.univ (ℓ := (SparseCore.T d).loc main_v6) oCore oCore_disjoint, oCore_cover]

theorem deal (W : Dev nD → Valuation τ sig (Elt F)) (d : Dev nD) (f : S1024.Idx → F .f32) :
    iprop(src W d fullShare ∗ outs d Finset.univ f) ⊢ iprop(src W d (shareDrop fullShare 2) ∗ (bigSep Finset.univ fun c : Fin 2 => forCore W d f c) : sProp 𝕄) := by
  have hs : (bigSep Finset.univ fun c : Fin 2 => forCore W d f c : sProp 𝕄)
      = iprop((bigSep Finset.univ fun c : Fin 2 => src W d (qCore c)) ∗ bigSep Finset.univ fun c : Fin 2 => outs d (oCore c) f) := bigSep_sep' ..
  rw [hs]
  iintro ⟨Hs, Ho⟩
  ihave Hs := (src_split W d fullShare 2) $$ Hs
  icases Hs with ⟨Hd, Hs⟩
  isplitl [Hd]; · iexact Hd
  isplitl [Hs]; · iexact Hs
  rw [← outs_cores]
  iexact Ho

theorem gather (W : Dev nD → Valuation τ sig (Elt F)) (d : Dev nD) (f : S1024.Idx → F .f32) :
    iprop(src W d (shareDrop fullShare 2) ∗ (bigSep Finset.univ fun c : Fin 2 => forCore W d f c) : sProp 𝕄) ⊢ iprop(src W d fullShare ∗ outs d Finset.univ f) := by
  have hs : (bigSep Finset.univ fun c : Fin 2 => forCore W d f c : sProp 𝕄)
      = iprop((bigSep Finset.univ fun c : Fin 2 => src W d (qCore c)) ∗ bigSep Finset.univ fun c : Fin 2 => outs d (oCore c) f) := bigSep_sep' ..
  rw [hs]
  iintro ⟨Hd, Hs, Ho⟩
  isplitl [Hd Hs]
  · iapply (src_join W d fullShare 2); isplitl [Hd] <;> iassumption
  rw [outs_cores]
  iexact Ho

/-! ## The TensorCore call inside @main -/

/-- The one admissible choice: no table is prefetched. -/
abbrev adm : (p : Fin 1) → (pcfgs (F := F) p).Adm := fun p => (cfgs p).toPCfg_adm

theorem V2_t (d : Dev nD) : V2 m d main_v5 = scored (fun c b => V1 m c b) d := Function.update_self _ _ _
theorem V2_ne (d : Dev nD) (b : Ref sig .tc) (h : b ≠ main_v5) : V2 m d b = V1 m d b :=
  Function.update_of_ne (fun e => h (Proc.devRef_injective _ e)) _ _

abbrev region := reg (fun c b => V1 m c b) adm (fun c b => V2 m c b) (V2_t m) (V2_ne m)

theorem region_pre (d : Dev nD) : (region m).pre d = iprop(unscopedBufs d (fun b => V1 m d b) ∗ dues d) := rfl
theorem region_post (d : Dev nD) : (region m).post d = iprop(unscopedBufs d (fun b => V2 m d b) ∗ dues d) := rfl

/-- What the launch deals the TensorCore for the call. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- What @main leaves the claim: every buffer at its last contents. -/
abbrev FIN (d : Dev nD) : sProp 𝕄 := held (SparseCore.T d) SU (V4 m d)

/-- The TensorCore's part in the handshakes that is left when its dues are taken out. -/
abbrev tcStRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_zero (d : Dev nD) : ((K (F := F)).tcSt EH d 0 : sProp 𝕄) = iprop(dues d ∗ tcStRest d) := rfl

theorem hmain (κ : GSem nD τ sig → ℕ) (d : Dev nD) :
    iprop((K (F := F)).ctx EH (P (V2 m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) SU (V0 m d) from
    Pipeline.unscopedBufs_held d (V0 m d)]
  simp only [main, wp_bind, wp_pure]
  iintro ⟨#Hctx, Hst, ⟨Hb, Hheld, Hts, -⟩, HG⟩
  iapply (wp_hlo_within 𝒱 (SparseCore.T d) none Set.univ (op := opWx) (S := SU) opWx_sub) $$ [Hb Hheld]
  · isplitl [Hb] <;> iassumption
  iintro ⟨Hb, Hheld⟩
  rw [wp_ret]; imodintro
  iapply (wp_hlo_within 𝒱 (SparseCore.T d) none Set.univ (op := opWh) (S := SU) opWh_sub) $$ [Hb Hheld]
  · isplitl [Hb] <;> iassumption
  iintro ⟨Hb, Hheld⟩
  rw [wp_ret]; imodintro
  iapply (wp_hlo_within 𝒱 (SparseCore.T d) none Set.univ (op := opWc) (S := SU) opWc_sub) $$ [Hb Hheld]
  · isplitl [Hb] <;> iassumption
  iintro ⟨Hb, Hheld⟩
  rw [wp_ret]; imodintro
  iapply (wp_hlo_within 𝒱 (SparseCore.T d) none Set.univ (op := opBs) (S := SU) opBs_sub) $$ [Hb Hheld]
  · isplitl [Hb] <;> iassumption
  iintro ⟨Hb, Hheld⟩
  rw [wp_ret]; imodintro
  iapply (wp_hlo_within 𝒱 (SparseCore.T d) none Set.univ (op := opBt) (S := SU) opBt_sub) $$ [Hb Hheld]
  · isplitl [Hb] <;> iassumption
  iintro ⟨Hb, Hheld⟩
  rw [wp_ret]; imodintro
  -- the TensorCore call
  rw [show (Prog.lift (TpuEff.customCall (SparseCore.inner (Pipeline.entry 0)) ()) :
      Prog (TpuEff nD τ sig (Elt F) (SparseCore.Sig (ΛP (F := F)) 1) .tc) PUnit)
    = SparseCore.liftProg (.op (.customCall (Pipeline.entry 0) ()) fun _ => .ret ⟨⟩) from rfl]
  iapply ((K (F := F)).wp_liftProg (D (F := F)) 𝒱 (SparseCore.T d) Set.univ none _ _)
  ihave Hlev := (SparseCore.Cfg.ctx_levAts κ) $$ Hctx
  ihave Hst := (Entails.of_eq (tcSt_zero d)) $$ Hst
  icases Hst with ⟨Hdue, Hst⟩
  icases HG with ⟨Hcg, Htk⟩
  iapply (Pipeline.RegionSeg.wp (pcfgs (F := F)) adm (pdats (fun c b => V1 m c b) adm) none cellOf_inj EP defs₀ 𝒱₀ (K (F := F)).L (K (F := F)).lev
    (region m) d none (fun _ h => nomatch h) _ _)
  rw [region_pre, region_post]
  isplitr [Hb Hheld Hdue Hlev Hcg Htk]
  swap
  · isplitl [Hb]; · iexact Hb
    isplitl [Hheld Hdue]
    · isplitl [Hheld]
      · iapply (Entails.of_eq (Pipeline.unscopedBufs_held d (V1 m d)).symm); iexact Hheld
      · iexact Hdue
    isplitl [Hlev]; · iexact Hlev
    isplitl [Hcg] <;> iassumption
  iintro ⟨Hb, Hheld, Hdue⟩
  rw [wp_ret]; imodintro
  ihave Hheld := (Entails.of_eq (Pipeline.unscopedBufs_held d (V2 m d))) $$ Hheld
  -- the SparseCore call
  ihave Hheld := (Entails.of_eq (held_sub_split (d : Thread nD τ) SC8_sub (V2 m d))) $$ Hheld
  icases Hheld with ⟨H8, Hrest⟩
  ihave H8 := (Entails.of_eq (held_SC8 d (V2 m d) (V2 m) fun _ _ => rfl)) $$ H8
  ihave H8 := (deal (V2 m) d (V2 m d o')) $$ H8
  icases H8 with ⟨Hdrop, H8⟩
  iapply ((K (F := F)).wp_run (D (F := F)) 𝒱 (EH := EH) (P := P (V2 m)) κ d 0) $$ [Hst Hdue H8 Hdrop Hrest Hb Hts]
  isplitr; · iexact Hctx
  isplitl [Hst Hdue]
  · iapply (Entails.of_eq (tcSt_zero d).symm); isplitl [Hdue] <;> iassumption
  isplitl [H8]; · rw [st0_eq]; iexact H8
  iintro ⟨Hst, H8⟩
  ihave H8 := (Entails.of_eq (dn0_eq (V2 m) d)) $$ H8
  ihave H8 := (gather (V2 m) d (scores (V2 m) d)) $$ [Hdrop H8]
  · isplitl [Hdrop] <;> iassumption
  -- the concatenation
  iapply (wp_hlo_within 𝒱 (SparseCore.T d) none Set.univ (op := opCat) (S := SU) opCat_sub (V := V3 m d)) $$ [Hb H8 Hrest]
  · isplitl [Hb]; · iexact Hb
    rw [held_sub_split _ SC8_sub, held_rest, held_SC8 d (V3 m d) (V2 m) (V3_ne m d), V3_o]
    isplitl [H8] <;> iassumption
  iintro ⟨Hb, Hheld⟩
  rw [wp_ret]; imodintro; imodintro
  isplitl [Hst]; · iexact Hst
  isplitl [Hheld]; · iexact Hheld
  isplitl [Hb] <;> iassumption

end Cert.Proof.Score
-- ==== Proof.Run.lean ====
module
public import proofs.«01_k».proof.Proof.Main

@[expose] public section

/-! # The run of the program

What the launch deals, and the run: every execution ends with every array of @main at its last contents and every
semaphore at zero. -/

noncomputable section
namespace Cert.Proof.Score
open Cert.KernelIdeal Cert.KernelIdeal.Gen
open Idealize.ShloMosaic
open Idealize.ShloMosaic.TcCoe Idealize.ShloMosaic.Tactic
open Idealize.ShloMosaic.StableHlo (held held_sub_split held_congr wp_hlo_within)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [∀ e, Nonempty (Elt F e)]
local notation "𝕄" => MT nD τ sig (HIx 1) (Elt F) ℕ UU ℕ

variable (m : (ℓ : Loc nD τ sig) → Buf (Elt F) ℓ) (ρ : Dev nD → PrngReg)

abbrev pins : Fin 1 → Pipeline.Cfg sig Λ₀ := Pipeline.pin (pcfgs (F := F)) adm
theorem pins_inj : Function.Injective (Pipeline.cellOf (nD := nD) (τ := τ) (pins (F := F))) := cellOf_inj

/-- The launch element: the handshakes' rounds, the pipeline's rounds, no counter. -/
def u₀ : UU := (initOf (K (F := F)).hsCells (K (F := F)).hsToks,
  (initOf (Pipeline.cells (pins (F := F)) pins_inj) (Pipeline.launchToks (pins (F := F)) pins_inj), 1))

theorem ownU_split (a : UH) (b : UP) (c : Counters) : (ownU (a, (b, c)) : sProp 𝕄) ⊢ iprop(BI.own (EH a) ∗ BI.own (EP b)) := by
  iintro H
  ihave H := (ownU_pair _ _) $$ H
  icases H with ⟨H1, H2⟩
  ihave H2 := (own_pair_emb _ _ _) $$ H2
  icases H2 with ⟨H2, -⟩
  isplitl [H1] <;> iassumption

theorem one_pipeline (Φ : Fin 1 → Dev nD → sProp 𝕄) :
    (bigSep Finset.univ fun d : Dev nD => bigSep Finset.univ fun p : Fin 1 => Φ p d) = bigSep Finset.univ fun d : Dev nD => Φ 0 d :=
  bigSep_congr fun d _ => by rw [show (Finset.univ : Finset (Fin 1)) = {0} from rfl, bigSep_singleton]

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (V2 m)).x q thr) := by
  have hG : (bigSep Finset.univ fun d : Dev nD => G (F := F) d : sProp 𝕄)
      = iprop((bigSep Finset.univ fun d : Dev nD => Pipeline.cellsGhost (pins (F := F)) EP 0 d)
        ∗ bigSep Finset.univ fun d : Dev nD => Pipeline.toksInit (pins (F := F)) EP 0 d) := bigSep_sep' ..
  unfold u₀
  iintro Hu
  ihave H := (ownU_split _ _ _) $$ Hu
  icases H with ⟨HH, HP⟩
  imod (Pipeline.fund_ghost (pins (F := F)) EP pins_inj) $$ HP with ⟨Hc, Ht⟩
  imodintro
  isplitl [HH]; · iexact HH
  isplitl [Hc Ht]
  · rw [hG]
    isplitl [Hc]
    · iapply (Entails.of_eq (one_pipeline fun p d => Pipeline.cellsGhost (pins (F := F)) EP p d)); iexact Hc
    · iapply (Entails.of_eq (one_pipeline fun p d => Pipeline.toksInit (pins (F := F)) EP p d)); iexact Ht
  rw [show (bigSep Finset.univ fun thr : Thread nD τ => bigSep Finset.univ fun q : Fin 1 => (P (V2 m)).x q thr : sProp 𝕄) = iprop(emp) from by
    show (bigSep Finset.univ fun _ : Thread nD τ => bigSep Finset.univ fun _ : Fin 1 => (iprop(emp) : sProp 𝕄)) = _
    rw [bigSep_congr fun _ _ => bigSep_emp' _, bigSep_emp']]
  iempintro

/-- What the end of @main says of the memory. -/
def fq (d : Dev nD) (s' : Phys nD τ sig (Elt F)) : Prop := ∀ b ∈ SU, s'.mem.mem (d, b) = V4 m d b

theorem held_one (W : Valuation τ sig (Elt F)) (d : Dev nD) (b : DevRef τ sig) :
    held (SparseCore.T d) {b} W ⊢ ((((d, b) : Loc nD τ sig) ↦{fullShare} W b) : sProp 𝕄) := by
  unfold held
  rw [bigSep_singleton]

theorem hfin (d : Dev nD) (s' : Phys nD τ sig (Elt F)) : iprop(FIN m d ∗ SI s') ⊢ (⌜fq m d s'⌝ : sProp 𝕄) := by
  suffices h : ∀ b, iprop(FIN m d ∗ SI s') ⊢ (⌜b ∈ SU → s'.mem.mem (d, b) = V4 m d b⌝ : sProp 𝕄) from (forall_intro h).trans pure_forall.2
  intro b
  by_cases hb : b ∈ SU
  · have hs : ({b} : Finset (DevRef τ sig)) ⊆ SU := Finset.singleton_subset_iff.2 hb
    unfold FIN
    rw [held_sub_split _ hs]
    iintro ⟨⟨Hx, -⟩, HSI⟩
    ihave Hx := (held_one (V4 m d) d b) $$ Hx
    ihave H := (SI_pointsTo_agree (st := s') (ℓ := (d, b)) (I := Finset.univ) (q := fullShare) (f := V4 m d b)) $$ [HSI Hx]
    · isplitl [HSI] <;> iassumption
    icases H with %hx
    ipureintro; exact fun _ => funext fun i => hx i (Finset.mem_univ i)
  · iintro -
    ipureintro; exact fun h => absurd h hb

/-- What the run ends in. -/
def QC : PUnit × MemSt nD τ sig (Elt F) → Prop := fun r => (∀ (d : Dev nD), ∀ b ∈ SU, r.2.mem (d, b) = V4 m d b) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (V2 m)) (A := ∅) facts v₀
    (fun q hq => match q with | 0 => nomatch hq)
    (fun q _ => match q with | 0 => tileObl (V2 m) facts)
    (fun q _ => match q with | 0 => SparseCore.Cfg.VecSplit.of_plain (vecSplit (V2 m)))
    m ρ main G (FIN m) (u₀ (F := F)) (sep_elim_left.trans (hu₀ m)) (hmain m ρ) (fq m) (hfin m) (QC m) (fun _ h hz => ⟨h, hz⟩)

end Cert.Proof.Score
-- ==== Proof.Same.lean ====
/-
  The kernel as printed and its idealization are one text: no operation is rewritten. So a run of the one, at the
  machine's bits, is a run of the other.
-/
module

public import proofs.«01_k».proof.Proof.Gen.Kernel
public import proofs.«01_k».proof.Proof.Setup

@[expose] public section

noncomputable section

namespace Cert.Proof.Score

open Idealize.ShloMosaic

variable {F : FTy → Type} [FloatOps F]

set_option backward.isDefEq.respectTransparency false in
set_option backward.isDefEq.respectTransparency.types false in
/-- The two tables of kernel bodies are the same, processor by processor and label by label. -/
theorem defs₀_same : @Cert.Kernel.defs₀ F _ Cert.Kernel.Gen.facts = @Cert.KernelIdeal.defs₀ F _ Cert.KernelIdeal.Gen.facts := by
  funext p l a
  rcases p with _ | c | ⟨c, s⟩
  all_goals
    match l, a with
    | ⟨0, _⟩, (t, s) => rfl
    | ⟨1, _⟩, _ => rfl

set_option backward.isDefEq.respectTransparency false in
set_option backward.isDefEq.respectTransparency.types false in
/-- So are the tables with the regions and the dispatch. -/
theorem defs_same : @Cert.Kernel.defs F _ Cert.Kernel.Gen.facts = @Cert.KernelIdeal.defs F _ Cert.KernelIdeal.Gen.facts :=
  congrArg (fun D => (Cert.KernelIdeal.sc (F := F)).defs (Pipeline.defs Cert.KernelIdeal.pcfgs D)) defs₀_same

set_option backward.isDefEq.respectTransparency false in
set_option backward.isDefEq.respectTransparency.types false in
/-- A run of the idealization's text is a run of the kernel's. -/
theorem run_same (m : (ℓ : Loc Cert.Kernel.nD Cert.Kernel.τ Cert.Kernel.sig) → Buf (Elt F) ℓ) (g : Dev Cert.Kernel.nD → PrngReg) (Q : _ → Prop)
    (h : θ_run (Cert.KernelIdeal.defs (F := F)) (Cert.KernelIdeal.threads (F := F)) ⟨m, fun _ => 0, g⟩ Q) :
    θ_run (Cert.Kernel.defs (F := F)) (Cert.Kernel.threads (F := F)) ⟨m, fun _ => 0, g⟩ Q := by
  rw [defs_same]
  exact h

end Cert.Proof.Score

end
-- ==== Proof.Frames.lean ====
module
public import proofs.«01_k».proof.Proof.Run
public import proofs.«01_k».proof.Proof.Same
public import proofs.«01_k».proof.Defs

@[expose] public section

/-! # The frames

The arguments are among the buffers of the run and no step writes them; so both programs run and leave their arguments
as they were, every semaphore at zero. -/

noncomputable section
namespace Cert.Proof.Score
open Cert.KernelIdeal Cert.KernelIdeal.Gen
open Idealize.ShloMosaic Idealize.ShloMosaic.TcCoe Idealize.SL.Sem
variable {F : FTy → Type} [FloatOps F] [∀ e, Nonempty (Elt F e)]
variable (m : (ℓ : Loc nD τ sig) → Buf (Elt F) ℓ) (ρ : Dev nD → PrngReg)

/-- The arguments of @main. -/
abbrev args : Finset (Ref sig .tc) := {main_arg0, main_arg1, main_arg2, main_arg3, main_arg4, main_arg5, main_arg6}

theorem arg_mem (b : Ref sig .tc) (h : b ∈ args) : Proc.devRef (.tc : Proc τ) b ∈ SU := by
  revert b; decide

theorem V1_arg (d : Dev nD) (b : Ref sig .tc) (h : b ∈ args) : V1 m d b = m (d, Proc.devRef .tc b) := by
  simp only [args, Finset.mem_insert, Finset.mem_singleton] at h
  rcases h with rfl | rfl | rfl | rfl | rfl | rfl | rfl <;> · unfold V1; after_results; try rfl

theorem arg_ne (b : Ref sig .tc) (h : b ∈ args) : b ≠ main_v5 ∧ Proc.devRef (.tc : Proc τ) b ≠ o' ∧ b ≠ main_v7 := by
  revert b; decide

theorem V4_arg (d : Dev nD) (b : Ref sig .tc) (h : b ∈ args) : V4 m d b = m (d, Proc.devRef .tc b) := by
  obtain ⟨h5, h6, h7⟩ := arg_ne b h
  rw [V4, StableHlo.binary_result_ne' _ _ _ _ _ h7, V3_ne m d _ h6, V2_ne m d b h5, V1_arg m d b h]

/-- The run, and what it leaves in the arguments and in the result. -/
theorem run_frame : θ_run (Cert.KernelIdeal.defs (F := F)) (Cert.KernelIdeal.threads (F := F)) ⟨m, fun _ => 0, ρ⟩
    (fun r => (∀ d : Dev nD, r.2.mem (d, Proc.devRef .tc (main_v7 : Ref sig .tc)) = V4 m d main_v7
      ∧ ∀ b ∈ args, r.2.mem (d, Proc.devRef .tc b) = m (d, Proc.devRef .tc b)) ∧ r.2.sem = fun _ => 0) :=
  (θ_run _ _ _).mono (fun _ h => ⟨fun d => ⟨h.1 d _ (by decide), fun b hb => (h.1 d _ (arg_mem b hb)).trans (V4_arg m d b hb)⟩, h.2⟩) (run_main m ρ)

theorem quiescent_KernelIdeal : Cert.quiescent_KernelIdeal := fun m ρ _ =>
  (θ_run _ _ _).mono (fun _ h => ⟨fun d => by
    have ha := (h.1 d).2
    exact ⟨ha _ (by decide), ha _ (by decide), ha _ (by decide), ha _ (by decide), ha _ (by decide), ha _ (by decide), ha _ (by decide)⟩, h.2⟩)
    (run_frame m ρ)

theorem quiescent_Kernel : Cert.quiescent_Kernel := fun m ρ _ =>
  run_same m ρ _ ((θ_run _ _ _).mono (fun _ h => ⟨fun d => by
    have ha := (h.1 d).2
    exact ⟨ha _ (by decide), ha _ (by decide), ha _ (by decide), ha _ (by decide), ha _ (by decide), ha _ (by decide), ha _ (by decide)⟩, h.2⟩)
    (run_frame m ρ))

end Cert.Proof.Score

end
-- ==== Proof.Spec.lean ====
module
public import proofs.«01_k».proof.Proof.Gen.ReferenceIdeal.Run
public import Idealize.ShloMosaic.Lib.Pipeline.ValueKit

@[expose] public section

/-! # What the reference computes

The score of a row: the logistic function of the sum of the row's three dot products and the bias. -/

set_option maxRecDepth 16384
noncomputable section
namespace Cert.Proof.Score
open Cert.ReferenceIdeal Cert.ReferenceIdeal.Gen
open Idealize.ShloMosaic Idealize.ShloMosaic.TcCoe

variable (e : FVec Ideal S16384x512 .f32) (h c : FVec Ideal S16384x1024 .f32) (wx : FVec Ideal S1x512 .f32) (wh wc : FVec Ideal S1x1024 .f32) (b : FVec Ideal S1 .f32)

/-- The reference's result over its arguments. -/
abbrev refTerm : FVec Ideal S16384 .f32 :=
  Host.divf (broadcastInDim S16384 ![] bcast_S_S16384 (constant S_ .f32 0x3F800000#32)) (addf (broadcastInDim S16384 ![] bcast_S_S16384 (constant S_ .f32 0x3F800000#32)) (Host.exp (Host.negf (shapeCast _ (addf (addf (addf (Host.dotGeneral dot_S16384x512_S512x1_S16384x1_1_0_0_1_n_n none e (transpose S512x1 [1, 0] wx transposes_S1x512_S512x1_1_0)) (Host.dotGeneral dot_S16384x1024_S1024x1_S16384x1_1_0_0_1_n_n none h (transpose S1024x1 [1, 0] wh transposes_S1x1024_S1024x1_1_0))) (Host.dotGeneral dot_S16384x1024_S1024x1_S16384x1_1_0_0_1_n_n none c (transpose S1024x1 [1, 0] wc transposes_S1x1024_S1024x1_1_0))) (broadcastInDim S16384x1 ![0, 1] bcast_S1x1_S16384x1_0_1 (broadcastInDim S1x1 ![1] bcast_S1_S1x1_1 b))) shapeCasts_S16384x1_S16384))))

/-- The score of row `r`. -/
def specAt (r : Fin 16384) : EReal :=
  Ideal.logistic ((∑ k : Fin 512, e (ix2 r k) * wx (ix2 0 k)) + (∑ k : Fin 1024, h (ix2 r k) * wh (ix2 0 k)) + (∑ k : Fin 1024, c (ix2 r k) * wc (ix2 0 k)) + b (ix1 0))

theorem refTerm_apply (i : S16384.Idx) : refTerm e h c wx wh wc b i = specAt e h c wx wh wc b (i 0) := by
  pointwise [refTerm, specAt, Ideal.logistic]

end Cert.Proof.Score

end
-- ==== Proof.TcValue.lean ====
module
public import proofs.«01_k».proof.Proof.Main
public import proofs.«01_k».proof.Proof.Spec

@[expose] public section

/-! # What the TensorCore call leaves

The block of point `t` holds the scores of rows `1024 (t + 1)` to `1024 (t + 2)`; the blocks tile the result. -/

set_option maxRecDepth 16384
noncomputable section
namespace Cert.Proof.Score
open Cert.KernelIdeal Cert.KernelIdeal.Gen
open Idealize.ShloMosaic Idealize.ShloMosaic.TcCoe
open Idealize.ShloMosaic.Pipeline (Dat)

variable (V : (c : Dev nD) → (b : Ref sig .tc) → Buf (Elt Ideal) ((c : Thread nD τ).loc b))

theorem idx : ∀ t : Fin cfg0.N, win0_0.index t = ![t.val + 1, 0] ∧ win0_1.index t = ![t.val + 1, 0] ∧ win0_2.index t = ![t.val + 1, 0]
    ∧ win0_3.index t = ![0, 0] ∧ win0_4.index t = ![0, 0] ∧ win0_5.index t = ![0, 0] ∧ win0_6.index t = ![0, 0] ∧ win0_7.index t = ![t.val] ∧ t.val < 15 :=
  (by decide +kernel : ∀ t : Fin grid0.N, _)

/-- The bias that the call reads, one element. -/
def bias1 (c : Dev nD) : FVec Ideal Cert.ReferenceIdeal.S1 .f32 := fun _ => (V c main_v4 : FVec Ideal S1x1 .f32) (ix2 0 0)

/-- The scores of the last 15360 rows. -/
def tcSpec (c : Dev nD) : FVec Ideal S15360 .f32 := fun i =>
  specAt (V c main_arg0) (V c main_arg1) (V c main_arg2) (V c main_arg3) (V c main_arg4) (V c main_arg5) (bias1 V c)
    ⟨(i 0).val + 1024, by have : (i 0).val < 15360 := (i 0).isLt; omega⟩

theorem point (c : Dev nD) (t : Fin cfg0.N) (y : S1024.Idx) : k0_pay1 (blkIn V c 0 t) (blkIn V c 3 t) (blkIn V c 1 t) (blkIn V c 4 t) (blkIn V c 2 t) (blkIn V c 5 t) (blkIn V c 6 t) y
    = tcSpec V c (((cfg0.win 7).blk t).view.emb y) := by
  pointwise [k0_pay1, tcSpec, specAt]
  blk_point [blkIn, bias1, idx t]

theorem scored_eq (c : Dev nD) : scored V c = tcSpec V c := by
  unfold scored
  refine (dat V c).arrAt_eq_of_covers 7 _ (by decide +kernel) fun t _ y => ?_
  blk_simp
  exact point V c t y

end Cert.Proof.Score

end
-- ==== Proof.ScValue.lean ====
module
public import proofs.«01_k».proof.Proof.TcValue

@[expose] public section

/-! # What the SparseCore call leaves

Over the extended reals the lane accumulators of a row, added over the lanes, are the row's three dot products: the
columns are dealt to the lanes sixteen at a time, and the sum of a family does not depend on how it is dealt. -/

set_option maxRecDepth 16384
noncomputable section
namespace Cert.Proof.Score
open Cert.KernelIdeal Cert.KernelIdeal.Gen
open Idealize.ShloMosaic Idealize.ShloMosaic.TcCoe

theorem step_apply (a : FVec Ideal S16 .f32) (w : FVec Ideal S16 .f32) (b : FVec Ideal S1x1x16 .f32) (l : Fin 16) :
    stepV a w b (ix1 l) = a (ix1 l) + b (ix3 0 0 l) * w (ix1 l) := by
  pointwise [stepV, k1_pay1]
  rfl

theorem lane_apply (v : FVec Ideal S16 .f32) (n : ℕ) (h : S16.Slices ![n] S1) (hn : n < 16) : lane v n h = v (ix1 ⟨n, hn⟩) := by
  unfold lane
  pointwise []
  blk_ext []
  rfl

theorem laneSum_eq (v : FVec Ideal S16 .f32) : laneSum v = ∑ l : Fin 16, v (ix1 l) := by
  unfold laneSum
  rw [lane_apply v 0 _ (by omega), lane_apply v 1 _ (by omega), lane_apply v 2 _ (by omega), lane_apply v 3 _ (by omega), lane_apply v 4 _ (by omega),
    lane_apply v 5 _ (by omega), lane_apply v 6 _ (by omega), lane_apply v 7 _ (by omega), lane_apply v 8 _ (by omega), lane_apply v 9 _ (by omega),
    lane_apply v 10 _ (by omega), lane_apply v 11 _ (by omega), lane_apply v 12 _ (by omega), lane_apply v 13 _ (by omega), lane_apply v 14 _ (by omega),
    lane_apply v 15 _ (by omega)]
  simp only [Fin.sum_univ_castSucc, Fin.sum_univ_zero, zero_add]
  rfl

/-- A lane's accumulator after some trips: what it began with and the products of the lane's columns. -/
theorem accN_apply {N : ℕ} (w : Fin N → FVec Ideal S16 .f32) (b : Fin N → FVec Ideal S1x1x16 .f32) (a : FVec Ideal S16 .f32) (l : Fin 16) (n : ℕ) (hn : n ≤ N) :
    accN w b a n (ix1 l) = a (ix1 l) + ∑ k : Fin n, b (k.castLE hn) (ix3 0 0 l) * w (k.castLE hn) (ix1 l) := by
  induction n with
  | zero => simp [accN]
  | succ n ih =>
    have := accN_succ w b a ⟨n, hn⟩
    rw [this, step_apply, ih (by omega), Fin.sum_univ_castSucc, ← add_assoc]
    rfl

/-- The sixteen lanes of all trips are the columns. -/
theorem sum_lanes {n N : ℕ} (hN : 16 * N = n) (f : Fin n → EReal) :
    (∑ l : Fin 16, ∑ k : Fin N, f ⟨16 * k.val + l.val, by omega⟩) = ∑ j : Fin n, f j := by
  subst hN
  rw [Finset.sum_comm, ← Finset.sum_product', Finset.univ_product_univ]
  refine Fintype.sum_equiv ((finProdFinEquiv (m := N) (n := 16)).trans (finCongr (Nat.mul_comm N 16))) _ _ fun x => ?_
  congr 1
  apply Fin.ext
  show 16 * x.1.val + x.2.val = x.2.val + 16 * x.1.val
  omega

theorem laneSum_accC {m n N : ℕ} (hN : 16 * N = n) (B : (⟨1, ![n]⟩ : Shape).Idx → EReal) (A : (⟨2, ![m, n]⟩ : Shape).Idx → EReal) (r : Fin m) (a : FVec Ideal S16 .f32) :
    laneSum (accC (F := Ideal) N hN B A r a) = laneSum a + ∑ j : Fin n, A (ix2 r j) * B (ix1 j) := by
  rw [laneSum_eq, laneSum_eq, ← sum_lanes hN, ← Finset.sum_add_distrib]
  refine Finset.sum_congr rfl fun l _ => ?_
  unfold accC
  rw [accN_apply _ _ _ _ N le_rfl]
  rfl

variable (e : FVec Ideal S16384x512 .f32) (h c : FVec Ideal S16384x1024 .f32) (wx : FVec Ideal S512 .f32) (wh wc : FVec Ideal S1024 .f32) (b : FVec Ideal S16 .f32)

theorem laneSum_rowAcc (r : Fin 16384) : laneSum (rowAcc e h c wx wh wc r)
    = (∑ k : Fin 512, e (ix2 r k) * wx (ix1 k)) + (∑ k : Fin 1024, h (ix2 r k) * wh (ix1 k)) + (∑ k : Fin 1024, c (ix2 r k) * wc (ix1 k)) := by
  unfold rowAcc
  rw [laneSum_accC, laneSum_accC, laneSum_accC]
  have : laneSum (zeroV (F := Ideal)) = 0 := by
    rw [laneSum_eq]
    refine Finset.sum_eq_zero fun l _ => ?_
    pointwise [zeroV]
  rw [this, zero_add]

theorem outRow_eq (r : Fin 16384) (l : Fin 16) : outRow e h c wx wh wc b r l
    = Ideal.logistic ((∑ k : Fin 512, e (ix2 r k) * wx (ix1 k)) + (∑ k : Fin 1024, h (ix2 r k) * wh (ix1 k)) + (∑ k : Fin 1024, c (ix2 r k) * wc (ix1 k)) + b (ix1 l)) := by
  unfold outRow
  rw [laneSum_rowAcc]
  pointwise [Ideal.logistic]
  rw [zero_sub]

end Cert.Proof.Score

end
-- ==== Proof.Value.lean ====
module
public import proofs.«01_k».proof.Proof.ScValue
public import proofs.«01_k».proof.Proof.Frames

@[expose] public section

/-! # The equation

The first 1024 rows come from the SparseCores and the others from the TensorCore; each is the reference's. -/

set_option maxRecDepth 16384
noncomputable section
namespace Cert.Proof.Score
open Cert.KernelIdeal Cert.KernelIdeal.Gen
open Idealize.ShloMosaic Idealize.ShloMosaic.TcCoe

variable (m : (ℓ : Loc nD τ sig) → Buf (Elt Ideal) ℓ) (d : Dev nD)

/-! ## The operands of the two calls -/

theorem V1_v0 : V1 m d main_v0 = shapeCast S512 (m (d, Proc.devRef .tc (main_arg3 : Ref sig .tc)) : FVec Ideal S1x512 .f32) shapeCasts_S1x512_S512 := by
  unfold V1; after_results; try rfl
theorem V1_v1 : V1 m d main_v1 = shapeCast S1024 (m (d, Proc.devRef .tc (main_arg4 : Ref sig .tc)) : FVec Ideal S1x1024 .f32) shapeCasts_S1x1024_S1024 := by
  unfold V1; after_results; try rfl
theorem V1_v2 : V1 m d main_v2 = shapeCast S1024 (m (d, Proc.devRef .tc (main_arg5 : Ref sig .tc)) : FVec Ideal S1x1024 .f32) shapeCasts_S1x1024_S1024 := by
  unfold V1; after_results; try rfl
theorem V1_v3 : V1 m d main_v3 = broadcastInDim S16 ![0] bcast_S1_S16_0 (m (d, Proc.devRef .tc (main_arg6 : Ref sig .tc)) : FVec Ideal S1 .f32) := by
  unfold V1; after_results; try rfl
theorem V1_v4 : V1 m d main_v4 = shapeCast S1x1 (m (d, Proc.devRef .tc (main_arg6 : Ref sig .tc)) : FVec Ideal S1 .f32) shapeCasts_S1_S1x1 := by
  unfold V1; after_results; try rfl

/-- The score of row `r`, over the program's arguments. -/
abbrev specM (r : Fin 16384) : EReal :=
  specAt (m (d, Proc.devRef .tc (main_arg0 : Ref sig .tc))) (m (d, Proc.devRef .tc (main_arg1 : Ref sig .tc))) (m (d, Proc.devRef .tc (main_arg2 : Ref sig .tc)))
    (m (d, Proc.devRef .tc (main_arg3 : Ref sig .tc))) (m (d, Proc.devRef .tc (main_arg4 : Ref sig .tc))) (m (d, Proc.devRef .tc (main_arg5 : Ref sig .tc)))
    (m (d, Proc.devRef .tc (main_arg6 : Ref sig .tc))) r

theorem bias1_eq : bias1 (fun c b => V1 m c b) d = m (d, Proc.devRef .tc (main_arg6 : Ref sig .tc)) := by
  funext x
  show (V1 m d main_v4 : FVec Ideal S1x1 .f32) (ix2 0 0) = _
  rw [V1_v4]
  pointwise []
  blk_ext []

/-- The TensorCore's rows. -/
theorem tc_rows (i : S15360.Idx) : (scored (fun c b => V1 m c b) d : FVec Ideal S15360 .f32) i
    = specM m d ⟨(i 0).val + 1024, by have : (i 0).val < 15360 := (i 0).isLt; omega⟩ := by
  rw [scored_eq]
  unfold tcSpec
  rw [bias1_eq]
  simp only [V1_arg m d main_arg0 (by decide), V1_arg m d main_arg1 (by decide), V1_arg m d main_arg2 (by decide), V1_arg m d main_arg3 (by decide),
    V1_arg m d main_arg4 (by decide), V1_arg m d main_arg5 (by decide)]

/-- The SparseCores' rows. -/
theorem sc_rows (i : S1024.Idx) : scores (V2 m) d i = specM m d ⟨(i 0).val, by have : (i 0).val < 1024 := (i 0).isLt; omega⟩ := by
  show scOut _ _ _ _ _ _ _ i = _
  unfold scOut
  rw [outRow_eq]
  rw [V2_ne m d main_arg0 (by decide), V2_ne m d main_arg1 (by decide), V2_ne m d main_arg2 (by decide), V2_ne m d main_v0 (by decide),
    V2_ne m d main_v1 (by decide), V2_ne m d main_v2 (by decide), V2_ne m d main_v3 (by decide), V1_v0, V1_v1, V1_v2, V1_v3,
    V1_arg m d main_arg0 (by decide), V1_arg m d main_arg1 (by decide), V1_arg m d main_arg2 (by decide)]
  unfold specM specAt
  pointwise []
  rfl

theorem result_eq : V4 m d main_v7 = refTerm (m (d, Proc.devRef .tc (main_arg0 : Ref sig .tc))) (m (d, Proc.devRef .tc (main_arg1 : Ref sig .tc))) (m (d, Proc.devRef .tc (main_arg2 : Ref sig .tc)))
    (m (d, Proc.devRef .tc (main_arg3 : Ref sig .tc))) (m (d, Proc.devRef .tc (main_arg4 : Ref sig .tc))) (m (d, Proc.devRef .tc (main_arg5 : Ref sig .tc)))
    (m (d, Proc.devRef .tc (main_arg6 : Ref sig .tc))) := by
  rw [V4, StableHlo.binary_result']
  rw [V3_o, V3_ne m d main_v5 (by decide), V2_t]
  funext i
  rw [refTerm_apply]
  have hi : (i 0).val < 16384 := (i 0).isLt
  by_cases hlt : (i 0).val < 1024
  · refine (concatenate_pair_apply_left (s₁ := S1024) (s₂ := S15360) 0 _ _ _ i rfl (ix1 ⟨(i 0).val, hlt⟩) fun b => ?_).trans ?_
    · match b with | ⟨0, _⟩ => rfl
    · exact sc_rows m d (ix1 ⟨(i 0).val, hlt⟩)
  · refine (concatenate_pair_apply_right (s₁ := S1024) (s₂ := S15360) 0 _ _ _ i rfl rfl (ix1 ⟨(i 0).val - 1024, by omega⟩) (fun b hb => ?_) ?_).trans ?_
    · match b with | ⟨0, _⟩ => exact absurd rfl hb
    · show (i 0).val - 1024 + 1024 = (i 0).val
      omega
    · refine (tc_rows m d (ix1 ⟨(i 0).val - 1024, by omega⟩)).trans (congrArg (specM m d) (Fin.ext ?_))
      show (i 0).val - 1024 + 1024 = (i 0).val
      omega

end Cert.Proof.Score

end
-- ==== Proof.lean ====
/- The certificate: the frames of the three programs, the idealization, and the equation over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- The reference runs and leaves its arguments; it has no semaphore. -/
theorem quiescent_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel and the reference end with the same scores. -/
theorem algebraic : Cert.algebraic_KernelIdeal_ReferenceIdeal := by
  intro m g m' g' _ hagree
  refine ⟨fun c => Score.V4 m c (Proc.devRef .tc (Cert.KernelIdeal.main_v7 : Ref Cert.KernelIdeal.sig .tc)), (θ_run _ _ _).mono (fun _ h c => ?_) (Score.run_frame m g),
    (θ_run Cert.ReferenceIdeal.defs _ _).mono (fun _ h c => ⟨(h c).1.trans ?_, (h c).2⟩) (Cert.ReferenceIdeal.Value.run (F := Ideal) m' g')⟩
  · obtain ⟨hv, ha⟩ := h.1 c
    exact ⟨hv, ha _ (by decide), ha _ (by decide), ha _ (by decide), ha _ (by decide), ha _ (by decide), ha _ (by decide), ha _ (by decide)⟩
  · obtain ⟨h0, h1, h2, h3, h4, h5, h6⟩ := hagree c
    rw [h0, h1, h2, h3, h4, h5, h6]
    exact (Score.result_eq m c).symm

theorem claim : Cert.Claim := ⟨Cert.Kernel.Gen.facts, Cert.KernelIdeal.Gen.facts, Cert.ReferenceIdeal.Gen.facts,
  Score.quiescent_Kernel, Score.quiescent_KernelIdeal, quiescent_ReferenceIdeal, trivial, algebraic⟩

end Cert.Proof

end
